-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S64x512
  ∧ IdealRules.bf16_pair.Statement Cert.KernelIdeal.S128x512 Cert.KernelIdeal.S64x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x48x64x640 : Shape := ⟨4, ![12, 48, 64, 640]⟩
abbrev S12x48x64 : Shape := ⟨3, ![12, 48, 64]⟩
abbrev S3x3x640x512 : Shape := ⟨4, ![3, 3, 640, 512]⟩
abbrev S5x512 : Shape := ⟨2, ![5, 512]⟩
abbrev S512 : Shape := ⟨1, ![512]⟩
abbrev S12x3072x640 : Shape := ⟨3, ![12, 3072, 640]⟩
abbrev S5760x512 : Shape := ⟨2, ![5760, 512]⟩
abbrev S1x512 : Shape := ⟨2, ![1, 512]⟩
abbrev S12x96x128x512 : Shape := ⟨4, ![12, 96, 128, 512]⟩
abbrev S1x3072x640 : Shape := ⟨3, ![1, 3072, 640]⟩
abbrev S1x48x64 : Shape := ⟨3, ![1, 48, 64]⟩
abbrev S1x8x128x512 : Shape := ⟨4, ![1, 8, 128, 512]⟩
abbrev S3200x1280 : Shape := ⟨2, ![3200, 1280]⟩
abbrev S56x640 : Shape := ⟨2, ![56, 640]⟩
abbrev S64x512 : Shape := ⟨2, ![64, 512]⟩
abbrev S48x512 : Shape := ⟨2, ![48, 512]⟩
abbrev S56x512 : Shape := ⟨2, ![56, 512]⟩
abbrev S128x512 : Shape := ⟨2, ![128, 512]⟩
abbrev S64x1280 : Shape := ⟨2, ![64, 1280]⟩
abbrev S48x64 : Shape := ⟨2, ![48, 64]⟩
abbrev S64x48 : Shape := ⟨2, ![64, 48]⟩
abbrev S1x64x640 : Shape := ⟨3, ![1, 64, 640]⟩
abbrev S64x640 : Shape := ⟨2, ![64, 640]⟩
abbrev S64x1 : Shape := ⟨2, ![64, 1]⟩
abbrev S63x640 : Shape := ⟨2, ![63, 640]⟩
abbrev S1x640 : Shape := ⟨2, ![1, 640]⟩
abbrev S8x640 : Shape := ⟨2, ![8, 640]⟩
abbrev S48x640 : Shape := ⟨2, ![48, 640]⟩
abbrev S640x512 : Shape := ⟨2, ![640, 512]⟩
abbrev S8x512 : Shape := ⟨2, ![8, 512]⟩
abbrev S256x1280 : Shape := ⟨2, ![256, 1280]⟩
abbrev S256x640 : Shape := ⟨2, ![256, 640]⟩
abbrev S256x512 : Shape := ⟨2, ![256, 512]⟩
abbrev S1x1x128x512 : Shape := ⟨4, ![1, 1, 128, 512]⟩

abbrev nBuf : Space → Nat
  | .hbm => 9
  | .vmem => 16
  | .smem => 0
  | _ => 0

abbrev bufTy : (tb : Table) → Fin (tcTables nBuf tb) → BufTy
  | .hbm, ⟨0, _⟩ => ⟨S12x48x64x640, .fp8e4m3⟩
  | .hbm, ⟨1, _⟩ => ⟨S12x48x64, .f32⟩
  | .hbm, ⟨2, _⟩ => ⟨S3x3x640x512, .fp8e4m3⟩
  | .hbm, ⟨3, _⟩ => ⟨S5x512, .f32⟩
  | .hbm, ⟨4, _⟩ => ⟨S512, .f32⟩
  | .hbm, ⟨5, _⟩ => ⟨S12x3072x640, .fp8e4m3⟩
  | .hbm, ⟨6, _⟩ => ⟨S5760x512, .fp8e4m3⟩
  | .hbm, ⟨7, _⟩ => ⟨S1x512, .f32⟩
  | .hbm, ⟨8, _⟩ => ⟨S12x96x128x512, .bf16⟩
  | .local _ .vmem, ⟨0, _⟩ => ⟨S1x3072x640, .fp8e4m3⟩
  | .local _ .vmem, ⟨1, _⟩ => ⟨S1x3072x640, .fp8e4m3⟩
  | .local _ .vmem, ⟨2, _⟩ => ⟨S1x48x64, .f32⟩
  | .local _ .vmem, ⟨3, _⟩ => ⟨S1x48x64, .f32⟩
  | .local _ .vmem, ⟨4, _⟩ => ⟨S5760x512, .fp8e4m3⟩
  | .local _ .vmem, ⟨5, _⟩ => ⟨S5x512, .f32⟩
  | .local _ .vmem, ⟨6, _⟩ => ⟨S1x512, .f32⟩
  | .local _ .vmem, ⟨7, _⟩ => ⟨S1x8x128x512, .bf16⟩
  | .local _ .vmem, ⟨8, _⟩ => ⟨S1x8x128x512, .bf16⟩
  | .local _ .vmem, ⟨9, _⟩ => ⟨S5760x512, .bf16⟩
  | .local _ .vmem, ⟨10, _⟩ => ⟨S3200x1280, .bf16⟩
  | .local _ .vmem, ⟨11, _⟩ => ⟨S56x640, .f32⟩
  | .local _ .vmem, ⟨12, _⟩ => ⟨S64x512, .f32⟩
  | .local _ .vmem, ⟨13, _⟩ => ⟨S64x512, .f32⟩
  | .local _ .vmem, ⟨14, _⟩ => ⟨S48x512, .f32⟩
  | .local _ .vmem, ⟨15, _⟩ => ⟨S56x512, .f32⟩
  | _, _ => ⟨S12x48x64x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨2, ![12, 12], ![false, false]⟩

def k0_mult1 (i : grid0.Coords) : BitVec 32 :=
  let arg1 : BitVec 32 := BitVec.ofNat 32 (i 1).val
  let c4_i32 : BitVec 32 := 4#32
  let v8 : BitVec 32 := Scalar.muli arg1 c4_i32
  let c1_i32 : BitVec 32 := 1#32
  let v9 : BitVec 32 := Scalar.addi v8 c1_i32
  let c64_i32 : BitVec 32 := 64#32
  let v10 : BitVec 32 := Scalar.muli v9 c64_i32
  v10
def k0_off1 (i : grid0.Coords) : Fin 2 → Nat :=
  let arg1 : BitVec 32 := BitVec.ofNat 32 (i 1).val
  let c4_i32 : BitVec 32 := 4#32
  let v8 : BitVec 32 := Scalar.muli arg1 c4_i32
  let c1_i32 : BitVec 32 := 1#32
  let v9 : BitVec 32 := Scalar.addi v8 c1_i32
  let c64_i32 : BitVec 32 := 64#32
  let v10 : BitVec 32 := Scalar.muli v9 c64_i32
  let v11 : BitVec 32 := v10
  let v12 : Index := Scalar.indexCast v11
  let c0 : Index := 0#32
  ![v12.toNat, 0]
def k0_off2 (i : grid0.Coords) : Fin 2 → Nat :=
  let arg1 : BitVec 32 := BitVec.ofNat 32 (i 1).val
  let c4_i32 : BitVec 32 := 4#32
  let v8 : BitVec 32 := Scalar.muli arg1 c4_i32
  let c1_i32 : BitVec 32 := 1#32
  let v9 : BitVec 32 := Scalar.addi v8 c1_i32
  let c64_i32 : BitVec 32 := 64#32
  let v10 : BitVec 32 := Scalar.muli v9 c64_i32
  let v11 : BitVec 32 := v10
  let c64_i32_4 : BitVec 32 := 64#32
  let v14 : BitVec 32 := Scalar.addi v11 c64_i32_4
  let v15 : Index := Scalar.indexCast v14
  let c0_5 : Index := 0#32
  ![v15.toNat, 0]
def k0_off3 (i : grid0.Coords) (c0_i32_32 : BitVec 32) : Fin 2 → Nat :=
  let arg1 : BitVec 32 := BitVec.ofNat 32 (i 1).val
  let c4_i32_31 : BitVec 32 := 4#32
  let v53 : BitVec 32 := Scalar.muli arg1 c4_i32_31
  let v54 : BitVec 32 := Scalar.addi v53 c0_i32_32
  let v61 : Index := Scalar.indexCast v54
  let c0_33 : Index := 0#32
  ![v61.toNat, 0]
def k0_off4 (i : grid0.Coords) (c0_i32_32 : BitVec 32) (c0_i32_34 : BitVec 32) : Fin 2 → Nat :=
  let arg1 : BitVec 32 := BitVec.ofNat 32 (i 1).val
  let c4_i32_31 : BitVec 32 := 4#32
  let v53 : BitVec 32 := Scalar.muli arg1 c4_i32_31
  let v54 : BitVec 32 := Scalar.addi v53 c0_i32_32
  let c7_i32 : BitVec 32 := 7#32
  let v63 : BitVec 32 := Scalar.addi v54 c7_i32
  let v64 : BitVec 32 := Scalar.addi v63 c0_i32_34
  let v65 : Index := Scalar.indexCast v64
  let c0_35 : Index := 0#32
  ![v65.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3072x640 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x48x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S5760x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F]
-- ==== ReferenceIdeal.lean ====
abbrev S12x48x64x640 : Shape := ⟨4, ![12, 48, 64, 640]⟩
abbrev S12x48x64 : Shape := ⟨3, ![12, 48, 64]⟩
abbrev S3x3x640x512 : Shape := ⟨4, ![3, 3, 640, 512]⟩
abbrev S5x512 : Shape := ⟨2, ![5, 512]⟩
abbrev S512 : Shape := ⟨1, ![512]⟩
abbrev S12x48x64x1 : Shape := ⟨4, ![12, 48, 64, 1]⟩
abbrev S5x1x512 : Shape := ⟨3, ![5, 1, 512]⟩
abbrev S5x128x512 : Shape := ⟨3, ![5, 128, 512]⟩
abbrev S640x512 : Shape := ⟨2, ![640, 512]⟩
abbrev S1x1x640x512 : Shape := ⟨4, ![1, 1, 640, 512]⟩
abbrev S12x48x2x64x640 : Shape := ⟨5, ![12, 48, 2, 64, 640]⟩
abbrev S12x96x64x640 : Shape := ⟨4, ![12, 96, 64, 640]⟩
abbrev S12x96x64x2x640 : Shape := ⟨5, ![12, 96, 64, 2, 640]⟩
abbrev S12x96x128x640 : Shape := ⟨4, ![12, 96, 128, 640]⟩
abbrev S_ : Shape := ⟨0, ![]⟩
abbrev S12x98x130x640 : Shape := ⟨4, ![12, 98, 130, 640]⟩
abbrev S12x96x128x512 : Shape := ⟨4, ![12, 96, 128, 512]⟩
abbrev S1x1x1x512 : Shape := ⟨4, ![1, 1, 1, 512]⟩

abbrev nBuf : Space → Nat
  | .hbm => 65
  | .vmem => 6
  | .smem => 0
  | _ => 0

abbrev bufTy : (tb : Table) → Fin (tcTables nBuf tb) → BufTy
  | .hbm, ⟨0, _⟩ => ⟨S12x48x64x640, .fp8e4m3⟩
  | .hbm, ⟨1, _⟩ => ⟨S12x48x64, .f32⟩
  | .hbm, ⟨2, _⟩ => ⟨S3x3x640x512, .fp8e4m3⟩
  | .hbm, ⟨3, _⟩ => ⟨S5x512, .f32⟩
  | .hbm, ⟨4, _⟩ => ⟨S512, .f32⟩
  | .hbm, ⟨5, _⟩ => ⟨S12x48x64x640, .bf16⟩
  | .hbm, ⟨6, _⟩ => ⟨S3x3x640x512, .bf16⟩
  | .hbm, ⟨7, _⟩ => ⟨S12x48x2x64x640, .bf16⟩
  | .hbm, ⟨8, _⟩ => ⟨S12x96x64x640, .bf16⟩
  | .hbm, ⟨9, _⟩ => ⟨S12x96x64x2x640, .bf16⟩
  | .hbm, ⟨10, _⟩ => ⟨S12x96x128x640, .bf16⟩
  | .hbm, ⟨11, _⟩ => ⟨S_, .i32⟩
  | .hbm, ⟨12, _⟩ => ⟨S_, .bf16⟩
  | .hbm, ⟨13, _⟩ => ⟨S12x98x130x640, .bf16⟩
  | .hbm, ⟨14, _⟩ => ⟨S12x96x128x640, .bf16⟩
  | .hbm, ⟨15, _⟩ => ⟨S1x1x640x512, .bf16⟩
  | .hbm, ⟨16, _⟩ => ⟨S640x512, .bf16⟩
  | .hbm, ⟨17, _⟩ => ⟨S12x96x128x512, .f32⟩
  | .hbm, ⟨18, _⟩ => ⟨S_, .f32⟩
  | .hbm, ⟨19, _⟩ => ⟨S12x96x128x512, .f32⟩
  | .hbm, ⟨20, _⟩ => ⟨S12x96x128x512, .f32⟩
  | .hbm, ⟨21, _⟩ => ⟨S12x96x128x640, .bf16⟩
  | .hbm, ⟨22, _⟩ => ⟨S1x1x640x512, .bf16⟩
  | .hbm, ⟨23, _⟩ => ⟨S640x512, .bf16⟩
  | .hbm, ⟨24, _⟩ => ⟨S12x96x128x512, .f32⟩
  | .hbm, ⟨25, _⟩ => ⟨S12x96x128x512, .f32⟩
  | .hbm, ⟨26, _⟩ => ⟨S12x96x128x640, .bf16⟩
  | .hbm, ⟨27, _⟩ => ⟨S1x1x640x512, .bf16⟩
  | .hbm, ⟨28, _⟩ => ⟨S640x512, .bf16⟩
  | .hbm, ⟨29, _⟩ => ⟨S12x96x128x512, .f32⟩
  | .hbm, ⟨30, _⟩ => ⟨S12x96x128x512, .f32⟩
  | .hbm, ⟨31, _⟩ => ⟨S12x96x128x640, .bf16⟩
  | .hbm, ⟨32, _⟩ => ⟨S1x1x640x512, .bf16⟩
  | .hbm, ⟨33, _⟩ => ⟨S640x512, .bf16⟩
  | .hbm, ⟨34, _⟩ => ⟨S12x96x128x512, .f32⟩
  | .hbm, ⟨35, _⟩ => ⟨S12x96x128x512, .f32⟩
  | .hbm, ⟨36, _⟩ => ⟨S12x96x128x640, .bf16⟩
  | .hbm, ⟨37, _⟩ => ⟨S1x1x640x512, .bf16⟩
  | .hbm, ⟨38, _⟩ => ⟨S640x512, .bf16⟩
  | .hbm, ⟨39, _⟩ => ⟨S12x96x128x512, .f32⟩
  | .hbm, ⟨40, _⟩ => ⟨S12x96x128x512, .f32⟩
  | .hbm, ⟨41, _⟩ => ⟨S12x96x128x640, .bf16⟩
  | .hbm, ⟨42, _⟩ => ⟨S1x1x640x512, .bf16⟩
  | .hbm, ⟨43, _⟩ => ⟨S640x512, .bf16⟩
  | .hbm, ⟨44, _⟩ => ⟨S12x96x128x512, .f32⟩
  | .hbm, ⟨45, _⟩ => ⟨S12x96x128x512, .f32⟩
  | .hbm, ⟨46, _⟩ => ⟨S12x96x128x640, .bf16⟩
  | .hbm, ⟨47, _⟩ => ⟨S1x1x640x512, .bf16⟩
  | .hbm, ⟨48, _⟩ => ⟨S640x512, .bf16⟩
  | .hbm, ⟨49, _⟩ => ⟨S12x96x128x512, .f32⟩
  | .hbm, ⟨50, _⟩ => ⟨S12x96x128x512, .f32⟩
  | .hbm, ⟨51, _⟩ => ⟨S12x96x128x640, .bf16⟩
  | .hbm, ⟨52, _⟩ => ⟨S1x1x640x512, .bf16⟩
  | .hbm, ⟨53, _⟩ => ⟨S640x512, .bf16⟩
  | .hbm, ⟨54, _⟩ => ⟨S12x96x128x512, .f32⟩
  | .hbm, ⟨55, _⟩ => ⟨S12x96x128x512, .f32⟩
  | .hbm, ⟨56, _⟩ => ⟨S12x96x128x640, .bf16⟩
  | .hbm, ⟨57, _⟩ => ⟨S1x1x640x512, .bf16⟩
  | .hbm, ⟨58, _⟩ => ⟨S640x512, .bf16⟩
  | .hbm, ⟨59, _⟩ => ⟨S12x96x128x512, .f32⟩
  | .hbm, ⟨60, _⟩ => ⟨S12x96x128x512, .f32⟩
  | .hbm, ⟨61, _⟩ => ⟨S1x1x1x512, .f32⟩
  | .hbm, ⟨62, _⟩ => ⟨S12x96x128x512, .f32⟩
  | .hbm, ⟨63, _⟩ => ⟨S12x96x128x512, .f32⟩
  | .hbm, ⟨64, _⟩ => ⟨S12x96x128x512, .bf16⟩
  | .local _ .vmem, ⟨0, _⟩ => ⟨S12x48x64x640, .fp8e4m3⟩
  | .local _ .vmem, ⟨1, _⟩ => ⟨S12x48x64, .f32⟩
  | .local _ .vmem, ⟨2, _⟩ => ⟨S3x3x640x512, .fp8e4m3⟩
  | .local _ .vmem, ⟨3, _⟩ => ⟨S5x512, .f32⟩
  | .local _ .vmem, ⟨4, _⟩ => ⟨S12x48x64x640, .bf16⟩
  | .local _ .vmem, ⟨5, _⟩ => ⟨S3x3x640x512, .bf16⟩
  | _, _ => ⟨S12x48x64x640, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x48x64x640 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x48x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x640x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x48x64x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x640x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/- The arithmetic of the claim, free of the programs: the upsampled convolution's nine products per output element,
   and the order the kernel adds them in. -/
module

public import Idealize.ShloMosaic.Lib.Pointwise

@[expose] public section

noncomputable section

namespace Cert.Conv

open Idealize.ShloMosaic

/-- The five arguments' entries at natural coordinates: the image codes `x b i j k` and scales `s b i j`, the
    weight codes `w n k d` of tap `n = 3 * row + column`, their scales `ws g d` and the bias `b d`. -/
structure Args where
  x : ℕ → ℕ → ℕ → ℕ → EReal
  s : ℕ → ℕ → ℕ → EReal
  w : ℕ → ℕ → ℕ → EReal
  ws : ℕ → ℕ → EReal
  b : ℕ → EReal

variable (A : Args)

/-- The dequantised image with a border of one zero pixel: pixel `(I - 1, J - 1)` of image `b`, channel `k`. -/
def pix (b I J k : ℕ) : EReal :=
  if 1 ≤ I ∧ I ≤ 48 ∧ 1 ≤ J ∧ J ≤ 64 then A.x b (I - 1) (J - 1) k * A.s b (I - 1) (J - 1) else 0

/-- The dequantised weight of tap `n`. -/
def wt (n k d : ℕ) : EReal := A.w n k d * A.ws (k / 128) d

/-- Tap `n`'s product at pixel `(I, J)` of the bordered image, channel `d`. -/
def prod (b n I J d : ℕ) : EReal := ∑ k : Fin 640, pix A b I J k * wt A n k d

theorem pix_row (b I J k : ℕ) (h : I = 0 ∨ 48 < I) : pix A b I J k = 0 := by
  unfold pix; rw [if_neg (by omega)]

theorem pix_col (b I J k : ℕ) (h : J = 0 ∨ 64 < J) : pix A b I J k = 0 := by
  unfold pix; rw [if_neg (by omega)]

/-- A pixel of the image, named by its place in the bordered one. -/
theorem pix_in (b i j k I J : ℕ) (hI : I = i + 1) (hJ : J = j + 1) (hi : i < 48) (hj : j < 64) :
    pix A b I J k = A.x b i j k * A.s b i j := by
  subst hI hJ; unfold pix; rw [if_pos (by omega)]; rfl

/-- A product off the image's rows is zero. -/
theorem prod_row (b n I J d : ℕ) (h : I = 0 ∨ 48 < I) : prod A b n I J d = 0 :=
  Finset.sum_eq_zero fun k _ => by rw [pix_row A b I J k h, zero_mul]

/-- A product off the image's columns is zero. -/
theorem prod_col (b n I J d : ℕ) (h : J = 0 ∨ 64 < J) : prod A b n I J d = 0 :=
  Finset.sum_eq_zero fun k _ => by rw [pix_col A b I J k h, zero_mul]

/-- The centre products and the bias, the horizontal, the vertical and the diagonal products, as the kernel adds them. -/
def cen (b I J d : ℕ) : EReal := prod A b 4 I J d + A.b d
def hor (b I J d : ℕ) : EReal := prod A b 3 I J d + prod A b 5 I (J + 1) d
def ver (b I J d : ℕ) : EReal := prod A b 1 I J d + prod A b 7 (I + 1) J d
def dia (b I J d : ℕ) : EReal :=
  prod A b 0 I J d + prod A b 2 I (J + 1) d + prod A b 6 (I + 1) J d + prod A b 8 (I + 1) (J + 1) d

/-- Output element `(Y, X)` as the kernel adds it up. -/
def kernelOut (b Y X d : ℕ) : EReal :=
  cen A b (Y / 2 + 1) (X / 2 + 1) d + ver A b ((Y + 1) / 2) (X / 2 + 1) d
    + (hor A b (Y / 2 + 1) ((X + 1) / 2) d + dia A b ((Y + 1) / 2) ((X + 1) / 2) d)

/-- Tap `(p, q)` of the convolution over the upsampled image reads pixel `((Y + p + 1) / 2, (X + q + 1) / 2)` of the
    bordered image. -/
def tapAt (b Y X d p q : ℕ) : EReal := prod A b (3 * p + q) ((Y + p + 1) / 2) ((X + q + 1) / 2) d

/-- Output element `(Y, X)` of the convolution, its taps added in order, then the bias. -/
def convOut (b Y X d : ℕ) : EReal :=
  tapAt A b Y X d 0 0 + tapAt A b Y X d 0 1 + tapAt A b Y X d 0 2 + tapAt A b Y X d 1 0 + tapAt A b Y X d 1 1
    + tapAt A b Y X d 1 2 + tapAt A b Y X d 2 0 + tapAt A b Y X d 2 1 + tapAt A b Y X d 2 2 + A.b d

/-- The two agree: the same nine products and the bias, in another order. -/
theorem kernelOut_eq (b Y X d : ℕ) : kernelOut A b Y X d = convOut A b Y X d := by
  unfold kernelOut convOut cen hor ver dia tapAt
  have e1 : (Y + 0 + 1) / 2 = (Y + 1) / 2 := by omega
  have e2 : (Y + 1 + 1) / 2 = Y / 2 + 1 := by omega
  have e3 : (Y + 2 + 1) / 2 = (Y + 1) / 2 + 1 := by omega
  have f1 : (X + 0 + 1) / 2 = (X + 1) / 2 := by omega
  have f2 : (X + 1 + 1) / 2 = X / 2 + 1 := by omega
  have f3 : (X + 2 + 1) / 2 = (X + 1) / 2 + 1 := by omega
  rw [e1, e2, e3, f1, f2, f3]
  simp only [Nat.mul_zero, Nat.mul_one, Nat.reduceMul, Nat.reduceAdd, Nat.zero_add, Nat.add_zero]
  ac_rfl

end Cert.Conv

end
-- ==== Proof.Arrays.lean ====
/- The arguments' entries at natural coordinates, read off the five argument arrays. -/
module

public import proofs.«01_k».proof.Proof.Spec
public import Idealize.ShloMosaic.Lib.Pointwise

@[expose] public section

noncomputable section

namespace Cert.Conv

open Idealize.ShloMosaic

variable (X : Vec Ideal ⟨4, ![12, 48, 64, 640]⟩ .fp8e4m3) (S : Vec Ideal ⟨3, ![12, 48, 64]⟩ .f32)
  (W : Vec Ideal ⟨4, ![3, 3, 640, 512]⟩ .fp8e4m3) (G : Vec Ideal ⟨2, ![5, 512]⟩ .f32) (B : Vec Ideal ⟨1, ![512]⟩ .f32)

/-- The entries of the five argument arrays (zero off the arrays, where nothing reads them). -/
def ofArrays : Args where
  x b i j k := if h : b < 12 ∧ i < 48 ∧ j < 64 ∧ k < 640 then
    X (ValueIdx.ix4 (⟨b, h.1⟩ : Fin 12) (⟨i, h.2.1⟩ : Fin 48) (⟨j, h.2.2.1⟩ : Fin 64) (⟨k, h.2.2.2⟩ : Fin 640)) else 0
  s b i j := if h : b < 12 ∧ i < 48 ∧ j < 64 then
    S (ValueIdx.ix3 (⟨b, h.1⟩ : Fin 12) (⟨i, h.2.1⟩ : Fin 48) (⟨j, h.2.2⟩ : Fin 64)) else 0
  w n k d := if h : n < 9 ∧ k < 640 ∧ d < 512 then
    W (ValueIdx.ix4 (⟨n / 3, by omega⟩ : Fin 3) (⟨n % 3, by omega⟩ : Fin 3) (⟨k, h.2.1⟩ : Fin 640) (⟨d, h.2.2⟩ : Fin 512)) else 0
  ws g d := if h : g < 5 ∧ d < 512 then G (ValueIdx.ix2 (⟨g, h.1⟩ : Fin 5) (⟨d, h.2⟩ : Fin 512)) else 0
  b d := if h : d < 512 then B (ValueIdx.ix1 (⟨d, h⟩ : Fin 512)) else 0

/-- An image code is the array's entry at the index with those coordinates. -/
theorem ofArrays_x (y : Shape.Idx ⟨4, ![12, 48, 64, 640]⟩) (b i j k : ℕ) (hb : (y 0).val = b) (hi : (y 1).val = i)
    (hj : (y 2).val = j) (hk : (y 3).val = k) : (ofArrays X S W G B).x b i j k = X y := by
  subst hb hi hj hk
  have h : (y 0).val < 12 ∧ (y 1).val < 48 ∧ (y 2).val < 64 ∧ (y 3).val < 640 := ⟨(y 0).isLt, (y 1).isLt, (y 2).isLt, (y 3).isLt⟩
  refine (dif_pos h).trans (congrArg X (funext fun a => ?_))
  match a with | ⟨0, _⟩ => rfl | ⟨1, _⟩ => rfl | ⟨2, _⟩ => rfl | ⟨3, _⟩ => rfl

/-- An image scale is the array's entry at the index with those coordinates. -/
theorem ofArrays_s (y : Shape.Idx ⟨3, ![12, 48, 64]⟩) (b i j : ℕ) (hb : (y 0).val = b) (hi : (y 1).val = i)
    (hj : (y 2).val = j) : (ofArrays X S W G B).s b i j = S y := by
  subst hb hi hj
  have h : (y 0).val < 12 ∧ (y 1).val < 48 ∧ (y 2).val < 64 := ⟨(y 0).isLt, (y 1).isLt, (y 2).isLt⟩
  refine (dif_pos h).trans (congrArg S (funext fun a => ?_))
  match a with | ⟨0, _⟩ => rfl | ⟨1, _⟩ => rfl | ⟨2, _⟩ => rfl

/-- A weight code of tap `n` is the array's entry at row `n / 3` and column `n % 3` of the taps. -/
theorem ofArrays_w (y : Shape.Idx ⟨4, ![3, 3, 640, 512]⟩) (n k d : ℕ) (hn : 3 * (y 0).val + (y 1).val = n)
    (hk : (y 2).val = k) (hd : (y 3).val = d) : (ofArrays X S W G B).w n k d = W y := by
  subst hn hk hd
  have h0 : (y 0).val < 3 := (y 0).isLt
  have h1 : (y 1).val < 3 := (y 1).isLt
  have h : 3 * (y 0).val + (y 1).val < 9 ∧ (y 2).val < 640 ∧ (y 3).val < 512 := ⟨by omega, (y 2).isLt, (y 3).isLt⟩
  refine (dif_pos h).trans (congrArg W (funext fun a => ?_))
  match a with
  | ⟨0, _⟩ => exact Fin.ext (show (3 * (y 0).val + (y 1).val) / 3 = (y 0).val by omega)
  | ⟨1, _⟩ => exact Fin.ext (show (3 * (y 0).val + (y 1).val) % 3 = (y 1).val by omega)
  | ⟨2, _⟩ => rfl
  | ⟨3, _⟩ => rfl

/-- A weight scale is the array's entry at the index with those coordinates. -/
theorem ofArrays_ws (y : Shape.Idx ⟨2, ![5, 512]⟩) (g d : ℕ) (hg : (y 0).val = g) (hd : (y 1).val = d) :
    (ofArrays X S W G B).ws g d = G y := by
  subst hg hd
  have h : (y 0).val < 5 ∧ (y 1).val < 512 := ⟨(y 0).isLt, (y 1).isLt⟩
  refine (dif_pos h).trans (congrArg G (funext fun a => ?_))
  match a with | ⟨0, _⟩ => rfl | ⟨1, _⟩ => rfl

/-- A bias entry is the array's. -/
theorem ofArrays_b (y : Shape.Idx ⟨1, ![512]⟩) (d : ℕ) (hd : (y 0).val = d) : (ofArrays X S W G B).b d = B y := by
  subst hd
  have h : (y 0).val < 512 := (y 0).isLt
  refine (dif_pos h).trans (congrArg B (funext fun a => ?_))
  match a with | ⟨0, _⟩ => rfl

end Cert.Conv

end
-- ==== Proof.Families.lean ====
/- What the kernel's body stores, as families of pieces indexed by an image row, a row of weights or an output
   row, in place of the long lists the body's run writes out one by one. Everything here is over any float
   instance; nothing is computed yet. -/
module

public import proofs.«01_k».proof.Proof.Gen.KernelIdeal.Value

@[expose] public section

noncomputable section

namespace Cert.KernelIdeal.Fam

open Idealize.ShloMosaic Cert.KernelIdeal.Gen

variable {F : FTy → Type} [FloatOps F]

/-- The items of `f (n-1)`, then of `f (n-2)`, …, then of `f 0`, then `tl`. -/
def down {α : Type} : (n : ℕ) → (Fin n → List α) → List α → List α
  | 0, _, tl => tl
  | n + 1, f, tl => f (Fin.last n) ++ down n (fun i => f i.castSucc) tl

/-- An item of `down n f tl` is one of an `f i`, or of the tail. -/
theorem mem_down {α : Type} {p : α} {tl : List α} : ∀ {n : ℕ} {f : Fin n → List α},
    p ∈ down n f tl ↔ (∃ i, p ∈ f i) ∨ p ∈ tl
  | 0, f => by simp [down]
  | n + 1, f => by
    rw [down, List.mem_append, mem_down]
    constructor
    · rintro (h | ⟨i, h⟩ | h)
      · exact .inl ⟨_, h⟩
      · exact .inl ⟨_, h⟩
      · exact .inr h
    · rintro (⟨i, h⟩ | h)
      · induction i using Fin.lastCases with
        | last => exact .inl h
        | cast j => exact .inr (.inl ⟨j, h⟩)
      · exact .inr (.inr h)

/-! ### The weights, dequantised -/

/-- 128 rows of weight codes times one row of scales. -/
def wVal (c : Vec F S128x512 .fp8e4m3) (s : Vec F S1x512 .f32) : FVec F S128x512 .bf16 :=
  shapeCast S128x512 (mulf (extf .bf16 (shapeCast S128x512 c shapeCasts_S128x512_S128x512) bitsLt_fp8e4m3_bf16)
    (broadcastTo S128x512 (truncf .bf16 s bitsLt_bf16_f32) broadcasts_S1x512_S128x512)) shapeCasts_S128x512_S128x512

theorem inbW (k : Fin 45) : ∀ a, (![128 * k.val, 0] : Fin 2 → ℕ) a + S128x512.size a ≤ S5760x512.size a := by
  intro a; have := k.isLt; fin_cases a
  · show 128 * k.val + 128 ≤ 5760; omega
  · show 0 + 512 ≤ 512; omega

theorem inbWs (k : Fin 45) : ∀ a, (![k.val % 5, 0] : Fin 2 → ℕ) a + S1x512.size a ≤ S5x512.size a := by
  intro a; have := k.isLt; fin_cases a
  · show k.val % 5 + 1 ≤ 5; omega
  · show 0 + 512 ≤ 512; omega

/-- Group `k` of 128 weight rows. -/
def wPiece (x2 : Vec F S5760x512 .fp8e4m3) (x3 : Vec F S5x512 .f32) (k : Fin 45) : View.Piece (Elt F) S5760x512 .bf16 :=
  ⟨Rect.unit ![128 * k.val, 0] S128x512.size (inbW k),
    wVal (View.ld x2 (Rect.unit ![128 * k.val, 0] S128x512.size (inbW k)))
      (View.ld x3 (Rect.unit ![k.val % 5, 0] S1x512.size (inbWs k)))⟩

/-- The stores that dequantise the weights. -/
def wPieces (x2 : Vec F S5760x512 .fp8e4m3) (x3 : Vec F S5x512 .f32) : List (View.Piece (Elt F) S5760x512 .bf16) :=
  down 45 (fun k => [wPiece x2 x3 k]) []

/-! ### The image, dequantised, beside itself shifted by one column -/

theorem slicesCol (i : Fin 48) : S64x48.Slices ![0, i.val] S64x1 :=
  ⟨rfl, fun a => by
    have := i.isLt; fin_cases a
    · show 0 + 64 ≤ 64; omega
    · show i.val + 1 ≤ 48; omega⟩

theorem inbRow (i : Fin 48) : ∀ a, (![0, 64 * i.val, 0] : Fin 3 → ℕ) a + S1x64x640.size a ≤ S1x3072x640.size a := by
  intro a; have := i.isLt; fin_cases a
  · show 0 + 1 ≤ 1; omega
  · show 64 * i.val + 64 ≤ 3072; omega
  · show 0 + 640 ≤ 640; omega

/-- Image row `i`: its 64 pixels' codes times their scales. -/
def rowVal (x0 : Vec F S1x3072x640 .fp8e4m3) (x1 : Vec F S1x48x64 .f32) (i : Fin 48) : FVec F S64x640 .bf16 :=
  mulf (extf .bf16 (shapeCast S64x640 (View.ld x0 (Rect.unit ![0, 64 * i.val, 0] S1x64x640.size (inbRow i)))
      shapeCasts_S1x64x640_S64x640) bitsLt_fp8e4m3_bf16)
    (truncf .bf16 (broadcastTo S64x640 (shapeCast S64x1 (extractStridedSlice S64x1 ![0, i.val]
      (transpose S64x48 [1, 0] (shapeCast S48x64 (View.ld x1 (Rect.unit ![0, 0, 0] S1x48x64.size inb_S1x48x64_S1x48x64_0_0_0))
        shapeCasts_S1x48x64_S48x64) transposes_S48x64_p1_0_S64x48) (slicesCol i))
      shapeCasts_S64x1_S64x1) broadcasts_S64x1_S64x640) bitsLt_bf16_f32)

/-- The row moved one pixel to the left, a zero pixel behind it. -/
def rowNext (x0 : Vec F S1x3072x640 .fp8e4m3) (x1 : Vec F S1x48x64 .f32) (i : Fin 48) : FVec F S64x640 .bf16 :=
  shapeCast S64x640 (concatenate S64x640 0
    [⟨S63x640, extractStridedSlice S63x640 ![1, 0] (rowVal x0 x1 i) slices_S64x640_o1_0_S63x640⟩,
      ⟨S1x640, broadcast S1x640 (Scalar.ofBits .bf16 0x0000#16)⟩] concatenates_S63x640_S1x640_S64x640_d0)
    shapeCasts_S64x640_S64x640

theorem inbXc (i : Fin 48) (c : Fin 2) :
    ∀ a, (![64 * (i.val + 1), 640 * c.val] : Fin 2 → ℕ) a + S64x640.size a ≤ S3200x1280.size a := by
  intro a; have := i.isLt; have := c.isLt; fin_cases a
  · show 64 * (i.val + 1) + 64 ≤ 3200; omega
  · show 640 * c.val + 640 ≤ 1280; omega

/-- Image row `i` in the padded image (`c = 0`), and the row shifted, beside it (`c = 1`). -/
def xcPiece (x0 : Vec F S1x3072x640 .fp8e4m3) (x1 : Vec F S1x48x64 .f32) (i : Fin 48) (c : Fin 2) :
    View.Piece (Elt F) S3200x1280 .bf16 :=
  ⟨Rect.unit ![64 * (i.val + 1), 640 * c.val] S64x640.size (inbXc i c),
    if c = 0 then shapeCast S64x640 (rowVal x0 x1 i) shapeCasts_S64x640_S64x640 else rowNext x0 x1 i⟩

/-- The stores of one image into the padded image, after the stores `tl`. -/
def xcPieces (x0 : Vec F S1x3072x640 .fp8e4m3) (x1 : Vec F S1x48x64 .f32)
    (tl : List (View.Piece (Elt F) S3200x1280 .bf16)) : List (View.Piece (Elt F) S3200x1280 .bf16) :=
  down 48 (fun i => [xcPiece x0 x1 i 1, xcPiece x0 x1 i 0]) tl

/-- The zero rows above and below the image. -/
def padPieces : List (View.Piece (Elt F) S3200x1280 .bf16) :=
  [⟨Rect.unit ![3136, 0] S64x1280.size inb_S3200x1280_S64x1280_3136_0, k0_pay285 k0_pay61⟩,
    ⟨Rect.unit ![0, 0] S64x1280.size inb_S3200x1280_S64x1280_0_0, k0_pay284 k0_pay61⟩]

theorem inbX0 (i : Fin 48) : ∀ a, (![i.val, 0] : Fin 2 → ℕ) a + S1x640.size a ≤ S56x640.size a := by
  intro a; have := i.isLt; fin_cases a
  · show i.val + 1 ≤ 56; omega
  · show 0 + 640 ≤ 640; omega

/-- The first pixel of image row `i`. -/
def x0Piece (x0 : Vec F S1x3072x640 .fp8e4m3) (x1 : Vec F S1x48x64 .f32) (i : Fin 48) :
    View.Piece (Elt F) S56x640 .f32 :=
  ⟨Rect.unit ![i.val, 0] S1x640.size (inbX0 i),
    shapeCast S1x640 (extf .f32 (extractStridedSlice S1x640 ![0, 0] (rowVal x0 x1 i) slices_S64x640_o0_0_S1x640)
      bitsLt_bf16_f32) shapeCasts_S1x640_S1x640⟩

/-- The stores of the rows' first pixels, and of zeros behind them. -/
def x0Pieces (x0 : Vec F S1x3072x640 .fp8e4m3) (x1 : Vec F S1x48x64 .f32) : List (View.Piece (Elt F) S56x640 .f32) :=
  ⟨Rect.unit ![48, 0] S8x640.size inb_S56x640_S8x640_48_0, k0_pay275⟩ :: down 48 (fun i => [x0Piece x0 x1 i]) []

/-! ### The products at the left border, and those above the image -/

theorem inbTap (n : Fin 9) : ∀ a, (![640 * n.val, 0] : Fin 2 → ℕ) a + S640x512.size a ≤ S5760x512.size a := by
  intro a; have := n.isLt; fin_cases a
  · show 640 * n.val + 640 ≤ 5760; omega
  · show 0 + 512 ≤ 512; omega

/-- The weights of tap `n`. -/
def tap (wb : Vec F S5760x512 .bf16) (n : Fin 9) : Vec F S640x512 .bf16 :=
  View.ld wb (Rect.unit ![640 * n.val, 0] S640x512.size (inbTap n))

/-- The left border's horizontal products. -/
def hlPieces (wb : Vec F S5760x512 .bf16) (z : Vec F S56x640 .f32) : List (View.Piece (Elt F) S48x512 .f32) :=
  [⟨Rect.unit ![0, 0] S48x512.size inb_S48x512_S48x512_0_0,
    k0_pay277 (View.ld z (Rect.unit ![0, 0] S48x640.size inb_S56x640_S48x640_0_0)) (tap wb 5)⟩]

/-- The left border's diagonal products, but for the copy of its first row. -/
def xlPieces (wb : Vec F S5760x512 .bf16) (z : Vec F S56x640 .f32) : List (View.Piece (Elt F) S56x512 .f32) :=
  [⟨Rect.unit ![0, 0] S8x512.size inb_S56x512_S8x512_0_0,
      k0_pay280 (k0_pay279 (View.ld z (Rect.unit ![0, 0] S48x640.size inb_S56x640_S48x640_0_0)) (tap wb 8))⟩,
    ⟨Rect.unit ![8, 0] S48x512.size inb_S56x512_S48x512_8_0,
      k0_pay278 (View.ld z (Rect.unit ![0, 0] S48x640.size inb_S56x640_S48x640_0_0))
        (View.ld z (Rect.unit ![1, 0] S48x640.size inb_S56x640_S48x640_1_0)) (tap wb 2) (tap wb 8)⟩]

/-- The first row of the diagonal products, copied to row 7. -/
def xlCopy (l : Vec F S56x512 .f32) : View.Piece (Elt F) S56x512 .f32 :=
  ⟨Rect.unit ![7, 0] S1x512.size inb_S56x512_S1x512_7_0,
    k0_pay281 (View.ld l (Rect.unit ![0, 0] S1x512.size inb_S56x512_S1x512_0_0))⟩

/-- The vertical products above the image. -/
def vInit (wb : Vec F S5760x512 .bf16) (xc : Vec F S3200x1280 .bf16) : View.Piece (Elt F) S64x512 .f32 :=
  ⟨Rect.unit ![0, 0] S64x512.size inb_S64x512_S64x512_0_0,
    k0_pay282 (View.ld xc (Rect.unit ![64, 0] S64x1280.size inb_S3200x1280_S64x1280_64_0)) (tap wb 7)⟩

/-- The diagonal products above the image. -/
def qInit (wb : Vec F S5760x512 .bf16) (xc : Vec F S3200x1280 .bf16) : View.Piece (Elt F) S64x512 .f32 :=
  ⟨Rect.unit ![0, 0] S64x512.size inb_S64x512_S64x512_0_0,
    k0_pay286 (View.ld xc (Rect.unit ![64, 0] S64x1280.size inb_S3200x1280_S64x1280_64_0))
      (k0_pay283 (View.ld xc (Rect.unit ![64, 0] S64x1280.size inb_S3200x1280_S64x1280_64_0))) (tap wb 6)
      (constant S64x512 .f32 0#32) (tap wb 8)⟩

/-! ### The products of one tile of four image rows -/

/-- The tile's four rows of the padded image. -/
def cur (xc : Vec F S3200x1280 .bf16) (i : grid0.Coords) : Vec F S256x1280 .bf16 :=
  View.ld xc (Rect.unit (k0_off1 i) S256x1280.size (k0_off1_inb i))

/-- The four rows one further down. -/
def nxt (xc : Vec F S3200x1280 .bf16) (i : grid0.Coords) : Vec F S256x1280 .bf16 :=
  View.ld xc (Rect.unit (k0_off2 i) S256x1280.size (k0_off2_inb i))

/-- The centre products, with the bias. -/
def cTile (wb : Vec F S5760x512 .bf16) (xc : Vec F S3200x1280 .bf16) (b : Vec F S1x512 .f32) (i : grid0.Coords) :
    FVec F S256x512 .f32 :=
  k0_pay291 (cur xc i) (tap wb 4) (View.ld b (Rect.unit ![0, 0] S1x512.size inb_S1x512_S1x512_0_0))

/-- The horizontal products. -/
def hTile (wb : Vec F S5760x512 .bf16) (xc : Vec F S3200x1280 .bf16) (i : grid0.Coords) : FVec F S256x512 .f32 :=
  k0_pay292 (cur xc i) (tap wb 3) (tap wb 5)

/-- The vertical products. -/
def vTile (wb : Vec F S5760x512 .bf16) (xc : Vec F S3200x1280 .bf16) (i : grid0.Coords) : FVec F S256x512 .f32 :=
  k0_pay293 (k0_pay287 (cur xc i)) (k0_pay289 (nxt xc i)) (tap wb 1) (tap wb 7)

/-- The diagonal products. -/
def qTile (wb : Vec F S5760x512 .bf16) (xc : Vec F S3200x1280 .bf16) (i : grid0.Coords) : FVec F S256x512 .f32 :=
  k0_pay294 (k0_pay287 (cur xc i)) (k0_pay288 (cur xc i)) (k0_pay289 (nxt xc i)) (k0_pay290 (nxt xc i))
    (tap wb 0) (tap wb 2) (tap wb 6) (tap wb 8)

theorem slicesRow (k : Fin 4) : S256x512.Slices ![64 * k.val, 0] S64x512 :=
  ⟨rfl, fun a => by
    have := k.isLt; fin_cases a
    · show 64 * k.val + 64 ≤ 256; omega
    · show 0 + 512 ≤ 512; omega⟩

/-- Row `k` of a tile of four. -/
def rowOf (v : FVec F S256x512 .f32) (k : Fin 4) : FVec F S64x512 .f32 :=
  extractStridedSlice S64x512 ![64 * k.val, 0] v (slicesRow k)

/-- The row above output row `(k, a)`: the tile's own row `k` for the lower of the two output rows; for the upper
    one the tile's row before, or the row `v0` carried over from the tile before. -/
def above (v : FVec F S256x512 .f32) (v0 : Vec F S64x512 .f32) (k : Fin 4) (a : Fin 2) : FVec F S64x512 .f32 :=
  if a = 1 then rowOf v k else
    match k with
    | 0 => View.ld v0 (Rect.unit ![0, 0] S64x512.size inb_S64x512_S64x512_0_0)
    | 1 => rowOf v 0
    | 2 => rowOf v 1
    | 3 => rowOf v 2

/-- Two rows of products, of the even and the odd columns, made one output row. -/
def rowOut (cv hx : FVec F S64x512 .f32) (hl xl : Vec F S1x512 .f32) : FVec F S1x1x128x512 .bf16 :=
  k0_pay300 k0_pay295 cv hx hl xl

theorem inbOut (k : Fin 4) (a : Fin 2) :
    ∀ b, (![0, 2 * k.val + a.val, 0, 0] : Fin 4 → ℕ) b + S1x1x128x512.size b ≤ S1x8x128x512.size b := by
  intro b; have := k.isLt; have := a.isLt; fin_cases b
  · show 0 + 1 ≤ 1; omega
  · show 2 * k.val + a.val + 1 ≤ 8; omega
  · show 0 + 128 ≤ 128; omega
  · show 0 + 512 ≤ 512; omega

/-- Output row `(k, a)` of a tile. -/
def outPiece (i : grid0.Coords) (wb : Vec F S5760x512 .bf16) (xc : Vec F S3200x1280 .bf16) (b : Vec F S1x512 .f32)
    (v0 q0 : Vec F S64x512 .f32) (hl : Vec F S48x512 .f32) (xl : Vec F S56x512 .f32) (k : Fin 4) (a : Fin 2) :
    View.Piece (Elt F) S1x8x128x512 .bf16 :=
  ⟨Rect.unit ![0, 2 * k.val + a.val, 0, 0] S1x1x128x512.size (inbOut k a),
    rowOut (addf (rowOf (cTile wb xc b i) k) (above (vTile wb xc i) v0 k a))
      (addf (rowOf (hTile wb xc i) k) (above (qTile wb xc i) q0 k a))
      (View.ld hl (Rect.unit (k0_off3 i (BitVec.ofNat 32 k.val)) S1x512.size (k0_off3_inb i k)))
      (View.ld xl (Rect.unit (k0_off4 i (BitVec.ofNat 32 k.val) (BitVec.ofNat 32 a.val)) S1x512.size (k0_off4_inb i k a)))⟩

/-- The stores of a tile's eight output rows. -/
def outPieces (i : grid0.Coords) (wb : Vec F S5760x512 .bf16) (xc : Vec F S3200x1280 .bf16) (b : Vec F S1x512 .f32)
    (v0 q0 : Vec F S64x512 .f32) (hl : Vec F S48x512 .f32) (xl : Vec F S56x512 .f32) :
    List (View.Piece (Elt F) S1x8x128x512 .bf16) :=
  down 4 (fun k => [outPiece i wb xc b v0 q0 hl xl k 1, outPiece i wb xc b v0 q0 hl xl k 0]) []

/-- The vertical products of the tile's last row, kept for the next tile. -/
def vPiece (i : grid0.Coords) (wb : Vec F S5760x512 .bf16) (xc : Vec F S3200x1280 .bf16) : View.Piece (Elt F) S64x512 .f32 :=
  ⟨Rect.unit ![0, 0] S64x512.size inb_S64x512_S64x512_0_0, k0_pay3 (vTile wb xc i)⟩

/-- The diagonal products of the tile's last row, kept for the next tile. -/
def qPiece (i : grid0.Coords) (wb : Vec F S5760x512 .bf16) (xc : Vec F S3200x1280 .bf16) : View.Piece (Elt F) S64x512 .f32 :=
  ⟨Rect.unit ![0, 0] S64x512.size inb_S64x512_S64x512_0_0, k0_pay4 (qTile wb xc i)⟩

end Cert.KernelIdeal.Fam

end
-- ==== Proof.Runs.lean ====
/- The pieces each case of the body's run ends with, as the families of `Families.lean`: the run's own words
   unfold to them. The cases: B, an inner tile; C, an image's first tile; A, the first tile of all, which also
   dequantises the weights. -/
module

public import proofs.«01_k».proof.Proof.Families

@[expose] public section

set_option maxRecDepth 16384

noncomputable section

namespace Cert.KernelIdeal.Fam

open Idealize.ShloMosaic Idealize.ShloMosaic.TcCoe Idealize.ShloMosaic.Tactic Idealize.SL.Sem Cert.KernelIdeal.Gen

variable {F : FTy → Type} [FloatOps F]

variable (c : Dev nD) (i : grid0.Coords)
  (arg2 : Memref sig .tc .vmem S1x3072x640 .fp8e4m3) (harg2 : arg2.IsWhole)
  (arg3 : Memref sig .tc .vmem S1x48x64 .f32) (harg3 : arg3.IsWhole)
  (arg4 : Memref sig .tc .vmem S5760x512 .fp8e4m3) (harg4 : arg4.IsWhole)
  (arg5 : Memref sig .tc .vmem S5x512 .f32) (harg5 : arg5.IsWhole)
  (arg6 : Memref sig .tc .vmem S1x512 .f32) (harg6 : arg6.IsWhole)
  (arg7 : Memref sig .tc .vmem S1x8x128x512 .bf16) (harg7 : arg7.IsWhole)
  (arg8 : Memref sig .tc .vmem S5760x512 .bf16) (harg8 : arg8.IsWhole)
  (arg9 : Memref sig .tc .vmem S3200x1280 .bf16) (harg9 : arg9.IsWhole)
  (arg10 : Memref sig .tc .vmem S56x640 .f32) (harg10 : arg10.IsWhole)
  (arg11 : Memref sig .tc .vmem S64x512 .f32) (harg11 : arg11.IsWhole)
  (arg12 : Memref sig .tc .vmem S64x512 .f32) (harg12 : arg12.IsWhole)
  (arg13 : Memref sig .tc .vmem S48x512 .f32) (harg13 : arg13.IsWhole)
  (arg14 : Memref sig .tc .vmem S56x512 .f32) (harg14 : arg14.IsWhole)
  (x0 : Vec F S1x3072x640 .fp8e4m3) (x1 : Vec F S1x48x64 .f32) (x2 : Vec F S5760x512 .fp8e4m3) (x3 : Vec F S5x512 .f32)
  (x4 : Vec F S1x512 .f32) (xs0 : Vec F S5760x512 .bf16) (xs1 : Vec F S3200x1280 .bf16) (xs3 xs4 : Vec F S64x512 .f32)
  (xs5 : Vec F S48x512 .f32) (xs6 : Vec F S56x512 .f32)

/-- An inner tile stores its eight output rows. -/
theorem runB_out (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs3 xs4 xs5 xs6).1 = outPieces i (arg8.view.read (Elt F) (harg8.unread xs0)) (arg9.view.read (Elt F) (harg9.unread xs1)) (arg6.view.read (Elt F) (harg6.unread x4)) (arg11.view.read (Elt F) (harg11.unread xs3)) (arg12.view.read (Elt F) (harg12.unread xs4)) (arg13.view.read (Elt F) (harg13.unread xs5)) (arg14.view.read (Elt F) (harg14.unread xs6)) := by
  sl_kernel_rfl

/-- It stores the last row's vertical products. -/
theorem runB_v (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs3 xs4 xs5 xs6).2.2.2.1 = [vPiece i (arg8.view.read (Elt F) (harg8.unread xs0)) (arg9.view.read (Elt F) (harg9.unread xs1))] := by
  sl_kernel_rfl

/-- It stores the last row's diagonal products. -/
theorem runB_q (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs3 xs4 xs5 xs6).2.2.2.2.1 = [qPiece i (arg8.view.read (Elt F) (harg8.unread xs0)) (arg9.view.read (Elt F) (harg9.unread xs1))] := by
  sl_kernel_rfl

/-- An image's first tile stores the image. -/
theorem runC_xc (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.1 = (xcPieces (arg2.view.read (Elt F) (harg2.unread x0)) (arg3.view.read (Elt F) (harg3.unread x1)) []) := by
  sl_kernel_rfl

/-- An image's first tile stores the vertical products above it, then those of its last row. -/
theorem runC_v (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.1 = [vPiece i (arg8.view.read (Elt F) (harg8.unread xs0)) (arg9.view.read (Elt F) (arg9.view.writes (Elt F) (harg9.unread xs1) (xcPieces (arg2.view.read (Elt F) (harg2.unread x0)) (arg3.view.read (Elt F) (harg3.unread x1)) []))), vInit (arg8.view.read (Elt F) (harg8.unread xs0)) (arg9.view.read (Elt F) (arg9.view.writes (Elt F) arg9.view.junk (xcPieces (arg2.view.read (Elt F) (harg2.unread x0)) (arg3.view.read (Elt F) (harg3.unread x1)) [])))] := by
  sl_kernel_rfl

/-- An image's first tile stores the diagonal products above it, then those of its last row. -/
theorem runC_q (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.2.1 = [qPiece i (arg8.view.read (Elt F) (harg8.unread xs0)) (arg9.view.read (Elt F) (arg9.view.writes (Elt F) (harg9.unread xs1) (xcPieces (arg2.view.read (Elt F) (harg2.unread x0)) (arg3.view.read (Elt F) (harg3.unread x1)) []))), qInit (arg8.view.read (Elt F) (harg8.unread xs0)) (arg9.view.read (Elt F) (arg9.view.writes (Elt F) arg9.view.junk (xcPieces (arg2.view.read (Elt F) (harg2.unread x0)) (arg3.view.read (Elt F) (harg3.unread x1)) [])))] := by
  sl_kernel_rfl

/-- An image's first tile stores the horizontal products at the left border. -/
theorem runC_hl (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.2.2.1 = (hlPieces (arg8.view.read (Elt F) (harg8.unread xs0)) (arg10.view.read (Elt F) (arg10.view.writes (Elt F) arg10.view.junk (x0Pieces (arg2.view.read (Elt F) (harg2.unread x0)) (arg3.view.read (Elt F) (harg3.unread x1)))))) := by
  sl_kernel_rfl

/-- An image's first tile stores the diagonal products at the left border. -/
theorem runC_xl (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).2.2.2.2.2.2.1 = (xlCopy (arg14.view.read (Elt F) (arg14.view.writes (Elt F) arg14.view.junk (xlPieces (arg8.view.read (Elt F) (harg8.unread xs0)) (arg10.view.read (Elt F) (arg10.view.writes (Elt F) arg10.view.junk (x0Pieces (arg2.view.read (Elt F) (harg2.unread x0)) (arg3.view.read (Elt F) (harg3.unread x1)))))))) :: xlPieces (arg8.view.read (Elt F) (harg8.unread xs0)) (arg10.view.read (Elt F) (arg10.view.writes (Elt F) arg10.view.junk (x0Pieces (arg2.view.read (Elt F) (harg2.unread x0)) (arg3.view.read (Elt F) (harg3.unread x1)))))) := by
  sl_kernel_rfl

/-- An image's first tile stores its eight output rows. -/
theorem runC_out (hc0 : ¬cond0_0 i) (hc1 : cond0_1 i) : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1).1 = outPieces i (arg8.view.read (Elt F) (harg8.unread xs0)) (arg9.view.read (Elt F) (arg9.view.writes (Elt F) (harg9.unread xs1) (xcPieces (arg2.view.read (Elt F) (harg2.unread x0)) (arg3.view.read (Elt F) (harg3.unread x1)) []))) (arg6.view.read (Elt F) (harg6.unread x4)) (arg11.view.read (Elt F) (arg11.view.writes (Elt F) arg11.view.junk [vInit (arg8.view.read (Elt F) (harg8.unread xs0)) (arg9.view.read (Elt F) (arg9.view.writes (Elt F) arg9.view.junk (xcPieces (arg2.view.read (Elt F) (harg2.unread x0)) (arg3.view.read (Elt F) (harg3.unread x1)) [])))])) (arg12.view.read (Elt F) (arg12.view.writes (Elt F) arg12.view.junk [qInit (arg8.view.read (Elt F) (harg8.unread xs0)) (arg9.view.read (Elt F) (arg9.view.writes (Elt F) arg9.view.junk (xcPieces (arg2.view.read (Elt F) (harg2.unread x0)) (arg3.view.read (Elt F) (harg3.unread x1)) [])))])) (arg13.view.read (Elt F) (arg13.view.writes (Elt F) arg13.view.junk (hlPieces (arg8.view.read (Elt F) (harg8.unread xs0)) (arg10.view.read (Elt F) (arg10.view.writes (Elt F) arg10.view.junk (x0Pieces (arg2.view.read (Elt F) (harg2.unread x0)) (arg3.view.read (Elt F) (harg3.unread x1)))))))) (arg14.view.read (Elt F) (arg14.view.writes (Elt F) arg14.view.junk (xlCopy (arg14.view.read (Elt F) (arg14.view.writes (Elt F) arg14.view.junk (xlPieces (arg8.view.read (Elt F) (harg8.unread xs0)) (arg10.view.read (Elt F) (arg10.view.writes (Elt F) arg10.view.junk (x0Pieces (arg2.view.read (Elt F) (harg2.unread x0)) (arg3.view.read (Elt F) (harg3.unread x1)))))))) :: xlPieces (arg8.view.read (Elt F) (harg8.unread xs0)) (arg10.view.read (Elt F) (arg10.view.writes (Elt F) arg10.view.junk (x0Pieces (arg2.view.read (Elt F) (harg2.unread x0)) (arg3.view.read (Elt F) (harg3.unread x1)))))))) := by
  sl_kernel_rfl

/-- The first tile of all stores the dequantised weights. -/
theorem runA_w (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1 = wPieces (arg4.view.read (Elt F) (harg4.unread x2)) (arg5.view.read (Elt F) (harg5.unread x3)) := by
  sl_kernel_rfl

/-- The first tile of all stores the image. -/
theorem runA_xc (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.1 = (xcPieces (arg2.view.read (Elt F) (harg2.unread x0)) (arg3.view.read (Elt F) (harg3.unread x1)) padPieces) := by
  sl_kernel_rfl

/-- The first tile of all stores the vertical products above it, then those of its last row. -/
theorem runA_v (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.1 = [vPiece i (arg8.view.read (Elt F) (arg8.view.writes (Elt F) arg8.view.junk (wPieces (arg4.view.read (Elt F) (harg4.unread x2)) (arg5.view.read (Elt F) (harg5.unread x3))))) (arg9.view.read (Elt F) (arg9.view.writes (Elt F) arg9.view.junk (xcPieces (arg2.view.read (Elt F) (harg2.unread x0)) (arg3.view.read (Elt F) (harg3.unread x1)) padPieces))), vInit (arg8.view.read (Elt F) (arg8.view.writes (Elt F) arg8.view.junk (wPieces (arg4.view.read (Elt F) (harg4.unread x2)) (arg5.view.read (Elt F) (harg5.unread x3))))) (arg9.view.read (Elt F) (arg9.view.writes (Elt F) arg9.view.junk (xcPieces (arg2.view.read (Elt F) (harg2.unread x0)) (arg3.view.read (Elt F) (harg3.unread x1)) padPieces)))] := by
  sl_kernel_rfl

/-- The first tile of all stores the diagonal products above it, then those of its last row. -/
theorem runA_q (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.1 = [qPiece i (arg8.view.read (Elt F) (arg8.view.writes (Elt F) arg8.view.junk (wPieces (arg4.view.read (Elt F) (harg4.unread x2)) (arg5.view.read (Elt F) (harg5.unread x3))))) (arg9.view.read (Elt F) (arg9.view.writes (Elt F) arg9.view.junk (xcPieces (arg2.view.read (Elt F) (harg2.unread x0)) (arg3.view.read (Elt F) (harg3.unread x1)) padPieces))), qInit (arg8.view.read (Elt F) (arg8.view.writes (Elt F) arg8.view.junk (wPieces (arg4.view.read (Elt F) (harg4.unread x2)) (arg5.view.read (Elt F) (harg5.unread x3))))) (arg9.view.read (Elt F) (arg9.view.writes (Elt F) arg9.view.junk (xcPieces (arg2.view.read (Elt F) (harg2.unread x0)) (arg3.view.read (Elt F) (harg3.unread x1)) padPieces)))] := by
  sl_kernel_rfl

/-- The first tile of all stores the horizontal products at the left border. -/
theorem runA_hl (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.1 = (hlPieces (arg8.view.read (Elt F) (arg8.view.writes (Elt F) arg8.view.junk (wPieces (arg4.view.read (Elt F) (harg4.unread x2)) (arg5.view.read (Elt F) (harg5.unread x3))))) (arg10.view.read (Elt F) (arg10.view.writes (Elt F) arg10.view.junk (x0Pieces (arg2.view.read (Elt F) (harg2.unread x0)) (arg3.view.read (Elt F) (harg3.unread x1)))))) := by
  sl_kernel_rfl

/-- The first tile of all stores the diagonal products at the left border. -/
theorem runA_xl (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.2.2.2.2.2.1 = (xlCopy (arg14.view.read (Elt F) (arg14.view.writes (Elt F) arg14.view.junk (xlPieces (arg8.view.read (Elt F) (arg8.view.writes (Elt F) arg8.view.junk (wPieces (arg4.view.read (Elt F) (harg4.unread x2)) (arg5.view.read (Elt F) (harg5.unread x3))))) (arg10.view.read (Elt F) (arg10.view.writes (Elt F) arg10.view.junk (x0Pieces (arg2.view.read (Elt F) (harg2.unread x0)) (arg3.view.read (Elt F) (harg3.unread x1)))))))) :: xlPieces (arg8.view.read (Elt F) (arg8.view.writes (Elt F) arg8.view.junk (wPieces (arg4.view.read (Elt F) (harg4.unread x2)) (arg5.view.read (Elt F) (harg5.unread x3))))) (arg10.view.read (Elt F) (arg10.view.writes (Elt F) arg10.view.junk (x0Pieces (arg2.view.read (Elt F) (harg2.unread x0)) (arg3.view.read (Elt F) (harg3.unread x1)))))) := by
  sl_kernel_rfl

/-- The first tile of all stores its eight output rows. -/
theorem runA_out (hc0 : cond0_0 i) (hc1 : cond0_1 i) : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1 = outPieces i (arg8.view.read (Elt F) (arg8.view.writes (Elt F) arg8.view.junk (wPieces (arg4.view.read (Elt F) (harg4.unread x2)) (arg5.view.read (Elt F) (harg5.unread x3))))) (arg9.view.read (Elt F) (arg9.view.writes (Elt F) arg9.view.junk (xcPieces (arg2.view.read (Elt F) (harg2.unread x0)) (arg3.view.read (Elt F) (harg3.unread x1)) padPieces))) (arg6.view.read (Elt F) (harg6.unread x4)) (arg11.view.read (Elt F) (arg11.view.writes (Elt F) arg11.view.junk [vInit (arg8.view.read (Elt F) (arg8.view.writes (Elt F) arg8.view.junk (wPieces (arg4.view.read (Elt F) (harg4.unread x2)) (arg5.view.read (Elt F) (harg5.unread x3))))) (arg9.view.read (Elt F) (arg9.view.writes (Elt F) arg9.view.junk (xcPieces (arg2.view.read (Elt F) (harg2.unread x0)) (arg3.view.read (Elt F) (harg3.unread x1)) padPieces)))])) (arg12.view.read (Elt F) (arg12.view.writes (Elt F) arg12.view.junk [qInit (arg8.view.read (Elt F) (arg8.view.writes (Elt F) arg8.view.junk (wPieces (arg4.view.read (Elt F) (harg4.unread x2)) (arg5.view.read (Elt F) (harg5.unread x3))))) (arg9.view.read (Elt F) (arg9.view.writes (Elt F) arg9.view.junk (xcPieces (arg2.view.read (Elt F) (harg2.unread x0)) (arg3.view.read (Elt F) (harg3.unread x1)) padPieces)))])) (arg13.view.read (Elt F) (arg13.view.writes (Elt F) arg13.view.junk (hlPieces (arg8.view.read (Elt F) (arg8.view.writes (Elt F) arg8.view.junk (wPieces (arg4.view.read (Elt F) (harg4.unread x2)) (arg5.view.read (Elt F) (harg5.unread x3))))) (arg10.view.read (Elt F) (arg10.view.writes (Elt F) arg10.view.junk (x0Pieces (arg2.view.read (Elt F) (harg2.unread x0)) (arg3.view.read (Elt F) (harg3.unread x1)))))))) (arg14.view.read (Elt F) (arg14.view.writes (Elt F) arg14.view.junk (xlCopy (arg14.view.read (Elt F) (arg14.view.writes (Elt F) arg14.view.junk (xlPieces (arg8.view.read (Elt F) (arg8.view.writes (Elt F) arg8.view.junk (wPieces (arg4.view.read (Elt F) (harg4.unread x2)) (arg5.view.read (Elt F) (harg5.unread x3))))) (arg10.view.read (Elt F) (arg10.view.writes (Elt F) arg10.view.junk (x0Pieces (arg2.view.read (Elt F) (harg2.unread x0)) (arg3.view.read (Elt F) (harg3.unread x1)))))))) :: xlPieces (arg8.view.read (Elt F) (arg8.view.writes (Elt F) arg8.view.junk (wPieces (arg4.view.read (Elt F) (harg4.unread x2)) (arg5.view.read (Elt F) (harg5.unread x3))))) (arg10.view.read (Elt F) (arg10.view.writes (Elt F) arg10.view.junk (x0Pieces (arg2.view.read (Elt F) (harg2.unread x0)) (arg3.view.read (Elt F) (harg3.unread x1)))))))) := by
  sl_kernel_rfl

end Cert.KernelIdeal.Fam

end
-- ==== Proof.Contents.lean ====
/- What the kernel's scratch buffers hold, over the extended reals, in the terms of `Spec.lean`. -/
module

public import proofs.«01_k».proof.Proof.Families
public import proofs.«01_k».proof.Proof.Spec

@[expose] public section

set_option maxRecDepth 16384

noncomputable section

namespace Cert.KernelIdeal.Fam

open Idealize.ShloMosaic Cert.KernelIdeal.Gen Cert.Conv

variable (A : Args) (b : ℕ)

/-- A buffer whose writes all agree with `g`, and which held `g` wherever none of them falls, reads `g`. -/
theorem read_writes_eq {sig : RefSig} {κ : Kind} {sp : Space} {s : Shape} {e : EltTy} {Val : EltTy → Type}
    (v : View sig κ sp s e) (f : v.ty.Contents Val) (g : s.Idx → Val e) (L : List (View.Piece Val s e))
    (hL : ∀ p ∈ L, ∀ x : p.1.shape.Idx, p.2 x = g (p.1.emb x))
    (hf : ∀ y, (∀ p ∈ L, y ∉ p.1.set) → v.read Val f y = g y) : v.read Val (v.writes Val f L) = g := by
  funext y
  by_cases h : ∃ p ∈ L, y ∈ p.1.set
  · exact View.read_writes_apply_of_pieces v f g L hL y h
  · have h' : ∀ p ∈ L, y ∉ p.1.set := fun p hp hy => h ⟨p, hp, hy⟩
    rw [View.read_writes_apply_of_forall_not_mem v f y L h', hf y h']

/-- A rectangle's element, in the form the pointwise reading of a load has. -/
theorem emb_eq_idx {s : Shape} (r : Rect s) (x : r.shape.Idx) : r.emb x = r.toLoadRect.idx x := rfl

/-- The weights: tap `n`'s row `k` at row `640 * n + k`. -/
def WB : Vec Ideal S5760x512 .bf16 := fun y => wt A ((y 0).val / 640) ((y 0).val % 640) (y 1).val

/-- The bordered image `b`: pixel `(I, J)` at row `64 * I + J - 1`, and pixel `(I, J + 1)` beside it. -/
def XC : Vec Ideal S3200x1280 .bf16 := fun y =>
  pix A b ((y 0).val / 64) ((y 0).val % 64 + 1 + (y 1).val / 640) ((y 1).val % 640)

/-- The rows' first pixels. -/
def X0 : Vec Ideal S56x640 .f32 := fun y => pix A b ((y 0).val + 1) 1 (y 1).val

variable {A b}

theorem wPiece_eq {x2 : Vec Ideal S5760x512 .fp8e4m3} {x3 : Vec Ideal S5x512 .f32}
    (h2 : ∀ y, x2 y = A.w ((y 0).val / 640) ((y 0).val % 640) (y 1).val) (h3 : ∀ y, x3 y = A.ws (y 0).val (y 1).val)
    (k : Fin 45) (x : S128x512.Idx) : (wPiece x2 x3 k).2 x = WB A ((wPiece x2 x3 k).1.emb x) := by
  idx_vars x
  pointwise [wPiece, wVal, WB, h2, h3, wt, emb_eq_idx]
  congr 2
  omega

/-- After its stores the weights' buffer holds the weights. -/
theorem w_holds {sig : RefSig} {κ : Kind} {sp : Space} (v : View sig κ sp S5760x512 .bf16) (f : v.ty.Contents (Elt Ideal))
    {x2 : Vec Ideal S5760x512 .fp8e4m3} {x3 : Vec Ideal S5x512 .f32}
    (h2 : ∀ y, x2 y = A.w ((y 0).val / 640) ((y 0).val % 640) (y 1).val)
    (h3 : ∀ y, x3 y = A.ws (y 0).val (y 1).val) :
    v.read (Elt Ideal) (v.writes (Elt Ideal) f (wPieces x2 x3)) = WB A := by
  refine read_writes_eq v f _ _ (fun p hp x => ?_) (fun y hy => ?_)
  · rcases mem_down.mp hp with ⟨k, hk⟩ | hk
    · obtain rfl := List.mem_singleton.mp hk
      exact wPiece_eq h2 h3 k x
    · simp at hk
  · exfalso
    have h0 : (y 0).val < 5760 := (y 0).isLt
    have h1 : (y 1).val < 512 := (y 1).isLt
    refine hy _ (mem_down.mpr (.inl ⟨⟨(y 0).val / 128, by omega⟩, List.mem_singleton_self _⟩)) ((Rect.mem_set_unit (inb := inbW _)).mpr fun a => ?_)
    fin_cases a
    · show 128 * ((y 0).val / 128) ≤ (y 0).val ∧ (y 0).val < 128 * ((y 0).val / 128) + 128; omega
    · show 0 ≤ (y 1).val ∧ (y 1).val < 0 + 512; omega

variable {x0 : Vec Ideal S1x3072x640 .fp8e4m3} {x1 : Vec Ideal S1x48x64 .f32}

theorem dropUnit (u : Vec Ideal S1x64x640 .fp8e4m3) (q : S64x640.Idx) :
    shapeCast S64x640 u shapeCasts_S1x64x640_S64x640 q = u (ix3 0 (q 0) (q 1)) := by
  idx_vars q
  pointwise []

/-- The codes of image row `i`. -/
theorem row_codes (h0 : ∀ y, x0 y = A.x b ((y 1).val / 64) ((y 1).val % 64) (y 2).val) (i : Fin 48) (q : S64x640.Idx) :
    shapeCast S64x640 (View.ld x0 (Rect.unit ![0, 64 * i.val, 0] S1x64x640.size (inbRow i)))
      shapeCasts_S1x64x640_S64x640 q = A.x b i.val (q 0).val (q 1).val := by
  refine (dropUnit _ q).trans ((h0 _).trans ?_)
  have hq : (q 0).val < 64 := (q 0).isLt
  show A.x b ((64 * i.val + 1 * (q 0).val) / 64) ((64 * i.val + 1 * (q 0).val) % 64) (0 + 1 * (q 1).val) = _
  congr 1 <;> omega

/-- The scales of image row `i`, each spread over its pixel's channels. -/
theorem row_scales (h1 : ∀ y, x1 y = A.s b (y 1).val (y 2).val) (i : Fin 48) (q : S64x640.Idx) :
    (broadcastTo S64x640 (shapeCast S64x1 (extractStridedSlice S64x1 ![0, i.val]
      (transpose S64x48 [1, 0] (shapeCast S48x64 (View.ld x1 (Rect.unit ![0, 0, 0] S1x48x64.size inb_S1x48x64_S1x48x64_0_0_0))
        shapeCasts_S1x48x64_S48x64) transposes_S48x64_p1_0_S64x48) (slicesCol i))
      shapeCasts_S64x1_S64x1) broadcasts_S64x1_S64x640 : Vec Ideal S64x640 .f32) q = A.s b i.val (q 0).val := by
  idx_vars q
  pointwise [h1]

theorem rowVal_apply (h0 : ∀ y, x0 y = A.x b ((y 1).val / 64) ((y 1).val % 64) (y 2).val)
    (h1 : ∀ y, x1 y = A.s b (y 1).val (y 2).val) (i : Fin 48) (q : S64x640.Idx) :
    rowVal x0 x1 i q = pix A b (i.val + 1) ((q 0).val + 1) (q 1).val :=
  (congrArg₂ (fun u v : EReal => u * v) (row_codes h0 i q) (row_scales h1 i q)).trans
    (pix_in A b i.val (q 0).val (q 1).val _ _ rfl rfl i.isLt (q 0).isLt).symm

theorem rowNext_apply (h0 : ∀ y, x0 y = A.x b ((y 1).val / 64) ((y 1).val % 64) (y 2).val)
    (h1 : ∀ y, x1 y = A.s b (y 1).val (y 2).val) (i : Fin 48) (q : S64x640.Idx) :
    rowNext x0 x1 i q = pix A b (i.val + 1) ((q 0).val + 2) (q 1).val := by
  idx_vars q
  pointwise [rowNext, rowVal_apply h0 h1]
  split
  · rename_i h; congr 1; omega
  · rw [pix_col]; omega

/-- The shape of both halves of the image's stores. -/
theorem xcPiece_eq (h0 : ∀ y, x0 y = A.x b ((y 1).val / 64) ((y 1).val % 64) (y 2).val)
    (h1 : ∀ y, x1 y = A.s b (y 1).val (y 2).val) (i : Fin 48) (c : Fin 2) (q : S64x640.Idx) :
    (xcPiece x0 x1 i c).2 q = XC A b ((xcPiece x0 x1 i c).1.emb q) := by
  obtain rfl | rfl : c = 0 ∨ c = 1 := by omega
  · change shapeCast S64x640 (rowVal x0 x1 i) shapeCasts_S64x640_S64x640 q = _
    idx_vars q
    pointwise [xcPiece, XC, rowVal_apply h0 h1, emb_eq_idx]
    congr 1 <;> omega
  · change rowNext x0 x1 i q = _
    idx_vars q
    pointwise [xcPiece, XC, rowNext_apply h0 h1, emb_eq_idx]
    congr 1 <;> omega

/-- An element of the bordered image's buffer in the image's own rows is stored with the image. -/
theorem xc_mem (y : S3200x1280.Idx) (tl : List (View.Piece (Elt Ideal) S3200x1280 .bf16))
    (hy : 64 ≤ (y 0).val ∧ (y 0).val < 3136) : ∃ p ∈ xcPieces x0 x1 tl, y ∈ p.1.set := by
  have h1 : (y 1).val < 1280 := (y 1).isLt
  let i : Fin 48 := ⟨(y 0).val / 64 - 1, by omega⟩
  let c : Fin 2 := ⟨(y 1).val / 640, by omega⟩
  refine ⟨xcPiece x0 x1 i c, mem_down.mpr (.inl ⟨i, ?_⟩), (Rect.mem_set_unit (inb := inbXc i c)).mpr fun a => ?_⟩
  · obtain h | h : c = 0 ∨ c = 1 := by omega
    · rw [h]; simp
    · rw [h]; simp
  · fin_cases a
    · show 64 * ((y 0).val / 64 - 1 + 1) ≤ (y 0).val ∧ (y 0).val < 64 * ((y 0).val / 64 - 1 + 1) + 64; omega
    · show 640 * ((y 1).val / 640) ≤ (y 1).val ∧ (y 1).val < 640 * ((y 1).val / 640) + 640; omega

/-- After an image's stores the buffer holds the bordered image, given that before it held zeros (as the bordered
    image has) in the rows above and below. -/
theorem xc_holds {sig : RefSig} {κ : Kind} {sp : Space} (v : View sig κ sp S3200x1280 .bf16) (f : v.ty.Contents (Elt Ideal))
    (h0 : ∀ y, x0 y = A.x b ((y 1).val / 64) ((y 1).val % 64) (y 2).val)
    (h1 : ∀ y, x1 y = A.s b (y 1).val (y 2).val)
    (hf : ∀ y, ¬(64 ≤ (y 0).val ∧ (y 0).val < 3136) → v.read (Elt Ideal) f y = XC A b y) :
    v.read (Elt Ideal) (v.writes (Elt Ideal) f (xcPieces x0 x1 [])) = XC A b := by
  refine read_writes_eq v f _ _ (fun p hp x => ?_) (fun y hy => hf y fun h => ?_)
  · rcases mem_down.mp hp with ⟨i, hi⟩ | hi
    · rcases List.mem_cons.mp hi with rfl | hi
      · exact xcPiece_eq h0 h1 i 1 x
      · obtain rfl := List.mem_singleton.mp hi
        exact xcPiece_eq h0 h1 i 0 x
    · simp at hi
  · obtain ⟨p, hp, hm⟩ := xc_mem (x0 := x0) (x1 := x1) y [] h
    exact hy p hp hm

/-- The bordered image is zero above and below the image. -/
theorem XC_pad (y : S3200x1280.Idx) (h : ¬(64 ≤ (y 0).val ∧ (y 0).val < 3136)) : XC A b y = 0 := by
  have : (y 0).val < 3200 := (y 0).isLt
  exact pix_row A b _ _ _ (by omega)

/-- The same for the first image, whose stores follow those of the zero rows. -/
theorem xc_holds_first {sig : RefSig} {κ : Kind} {sp : Space} (v : View sig κ sp S3200x1280 .bf16)
    (f : v.ty.Contents (Elt Ideal))
    (h0 : ∀ y, x0 y = A.x b ((y 1).val / 64) ((y 1).val % 64) (y 2).val)
    (h1 : ∀ y, x1 y = A.s b (y 1).val (y 2).val) :
    v.read (Elt Ideal) (v.writes (Elt Ideal) f (xcPieces x0 x1 padPieces)) = XC A b := by
  refine read_writes_eq v f _ _ (fun p hp x => ?_) (fun y hy => ?_)
  · rcases mem_down.mp hp with ⟨i, hi⟩ | hi
    · rcases List.mem_cons.mp hi with rfl | hi
      · exact xcPiece_eq h0 h1 i 1 x
      · obtain rfl := List.mem_singleton.mp hi
        exact xcPiece_eq h0 h1 i 0 x
    · rcases List.mem_cons.mp hi with rfl | hi
      · have hx : (x 0).val < 64 := (x 0).isLt
        rw [XC_pad _ (by show ¬(64 ≤ 3136 + 1 * (x 0).val ∧ 3136 + 1 * (x 0).val < 3136); omega)]
        exact Ideal.ofBits_zero_bf16
      · obtain rfl := List.mem_singleton.mp hi
        have hx : (x 0).val < 64 := (x 0).isLt
        rw [XC_pad _ (by show ¬(64 ≤ 0 + 1 * (x 0).val ∧ 0 + 1 * (x 0).val < 3136); omega)]
        exact Ideal.ofBits_zero_bf16
  · exfalso
    have hy0 : (y 0).val < 3200 := (y 0).isLt
    have hy1 : (y 1).val < 1280 := (y 1).isLt
    by_cases h : 64 ≤ (y 0).val ∧ (y 0).val < 3136
    · obtain ⟨p, hp, hm⟩ := xc_mem (x0 := x0) (x1 := x1) y padPieces h
      exact hy p hp hm
    by_cases h' : (y 0).val < 64
    · refine hy _ (mem_down.mpr (.inr (List.mem_cons_of_mem _ List.mem_cons_self))) ((Rect.mem_set_unit (inb := inb_S3200x1280_S64x1280_0_0)).mpr fun a => ?_)
      fin_cases a
      · show 0 ≤ (y 0).val ∧ (y 0).val < 0 + 64; omega
      · show 0 ≤ (y 1).val ∧ (y 1).val < 0 + 1280; omega
    · refine hy _ (mem_down.mpr (.inr List.mem_cons_self)) ((Rect.mem_set_unit (inb := inb_S3200x1280_S64x1280_3136_0)).mpr fun a => ?_)
      fin_cases a
      · show 3136 ≤ (y 0).val ∧ (y 0).val < 3136 + 64; omega
      · show 0 ≤ (y 1).val ∧ (y 1).val < 0 + 1280; omega

/-- After its stores the buffer of first pixels holds them, zeros behind the last row. -/
theorem x0_holds {sig : RefSig} {κ : Kind} {sp : Space} (v : View sig κ sp S56x640 .f32) (f : v.ty.Contents (Elt Ideal))
    (h0 : ∀ y, x0 y = A.x b ((y 1).val / 64) ((y 1).val % 64) (y 2).val)
    (h1 : ∀ y, x1 y = A.s b (y 1).val (y 2).val) :
    v.read (Elt Ideal) (v.writes (Elt Ideal) f (x0Pieces x0 x1)) = X0 A b := by
  refine read_writes_eq v f _ _ (fun p hp x => ?_) (fun y hy => ?_)
  · rcases List.mem_cons.mp hp with rfl | hp
    · rw [X0, pix_row A b _ _ _ (by show 48 + 1 * (x 0).val + 1 = 0 ∨ 48 < 48 + 1 * (x 0).val + 1; omega)]
      exact Ideal.ofBits_zero_f32
    · rcases mem_down.mp hp with ⟨i, hi⟩ | hi
      · obtain rfl := List.mem_singleton.mp hi
        change S1x640.Idx at x
        revert x; intro q
        idx_vars q
        pointwise [x0Piece, X0, rowVal_apply h0 h1, emb_eq_idx]
      · simp at hi
  · exfalso
    have hy0 : (y 0).val < 56 := (y 0).isLt
    have hy1 : (y 1).val < 640 := (y 1).isLt
    by_cases h : (y 0).val < 48
    · refine hy _ (List.mem_cons_of_mem _ (mem_down.mpr (.inl ⟨⟨(y 0).val, h⟩, List.mem_singleton_self _⟩)))
        ((Rect.mem_set_unit (inb := inbX0 _)).mpr fun a => ?_)
      fin_cases a
      · show (y 0).val ≤ (y 0).val ∧ (y 0).val < (y 0).val + 1; omega
      · show 0 ≤ (y 1).val ∧ (y 1).val < 0 + 640; omega
    · refine hy _ List.mem_cons_self ((Rect.mem_set_unit (inb := inb_S56x640_S8x640_48_0)).mpr fun a => ?_)
      fin_cases a
      · show 48 ≤ (y 0).val ∧ (y 0).val < 48 + 8; omega
      · show 0 ≤ (y 1).val ∧ (y 1).val < 0 + 640; omega

end Cert.KernelIdeal.Fam

end
-- ==== Proof.Products.lean ====
/- The products the kernel keeps between its tiles: those of the left border, and those above the image. -/
module

public import proofs.«01_k».proof.Proof.Contents

@[expose] public section

set_option maxRecDepth 16384

noncomputable section

namespace Cert.KernelIdeal.Fam

open Idealize.ShloMosaic Cert.KernelIdeal.Gen Cert.Conv

variable (A : Args) (b : ℕ)

/-- The left border's horizontal products. -/
def HL : Vec Ideal S48x512 .f32 := fun y => prod A b 5 ((y 0).val + 1) 1 (y 1).val

/-- The left border's diagonal products: row `7 + I` for padded row `I`; below row 7 what no output row reads. -/
def XL : Vec Ideal S56x512 .f32 := fun y =>
  if 7 ≤ (y 0).val then prod A b 2 ((y 0).val - 7) 1 (y 1).val + prod A b 8 ((y 0).val - 6) 1 (y 1).val
  else prod A b 8 ((y 0).val + 1) 1 (y 1).val

/-- The vertical products of padded row `I`. -/
def VR (I : ℕ) : Vec Ideal S64x512 .f32 := fun y => ver A b I ((y 0).val + 1) (y 1).val

/-- The diagonal products of padded row `I`. -/
def QR (I : ℕ) : Vec Ideal S64x512 .f32 := fun y => dia A b I ((y 0).val + 1) (y 1).val

variable {A b}

/-- The weights of a tap. -/
theorem tap_apply (n : Fin 9) (q : S640x512.Idx) : tap (WB A) n q = wt A n.val (q 0).val (q 1).val := by
  have hk : (q 0).val < 640 := (q 0).isLt
  show wt A ((640 * n.val + 1 * (q 0).val) / 640) ((640 * n.val + 1 * (q 0).val) % 640) (0 + 1 * (q 1).val) = _
  congr 1 <;> omega

theorem hlPiece_eq (q : S48x512.Idx) :
    k0_pay277 (View.ld (X0 A b) (Rect.unit ![0, 0] S48x640.size inb_S56x640_S48x640_0_0)) (tap (WB A) 5) q = HL A b q := by
  idx_vars q
  pointwise [k0_pay277, k0_pay276, tap_apply, X0, HL, prod]
  done

theorem xlPiece_eq (q : S48x512.Idx) :
    k0_pay278 (View.ld (X0 A b) (Rect.unit ![0, 0] S48x640.size inb_S56x640_S48x640_0_0))
      (View.ld (X0 A b) (Rect.unit ![1, 0] S48x640.size inb_S56x640_S48x640_1_0)) (tap (WB A) 2) (tap (WB A) 8) q
      = prod A b 2 ((q 0).val + 1) 1 (q 1).val + prod A b 8 ((q 0).val + 2) 1 (q 1).val := by
  idx_vars q
  pointwise [k0_pay278, k0_pay276, tap_apply, X0, prod]
  rw [Nat.add_comm 1 q0.val]

theorem xlFirst_eq (q : S8x512.Idx) :
    k0_pay280 (k0_pay279 (View.ld (X0 A b) (Rect.unit ![0, 0] S48x640.size inb_S56x640_S48x640_0_0)) (tap (WB A) 8)) q
      = prod A b 8 ((q 0).val + 1) 1 (q 1).val := by
  idx_vars q
  pointwise [k0_pay280, k0_pay279, k0_pay276, tap_apply, X0, prod]
  done

/-- The first image row, as it is loaded. -/
theorem firstRow (xc : Vec Ideal S3200x1280 .bf16)
    (hx : ∀ y, 64 ≤ (y 0).val ∧ (y 0).val < 3136 → xc y = XC A b y) (r : Fin 64) (k : Fin 1280) :
    View.ld xc (Rect.unit ![64, 0] S64x1280.size inb_S3200x1280_S64x1280_64_0) (ix2 r k)
      = pix A b 1 (r.val + 1 + k.val / 640) (k.val % 640) := by
  have hr := r.isLt
  refine (hx _ (by show 64 ≤ 64 + 1 * r.val ∧ 64 + 1 * r.val < 3136; omega)).trans ?_
  show pix A b ((64 + 1 * r.val) / 64) ((64 + 1 * r.val) % 64 + 1 + (0 + 1 * k.val) / 640) ((0 + 1 * k.val) % 640) = _
  congr 1 <;> omega

theorem half0 (x : Fin 640) : x.val / 640 = 0 := Nat.div_eq_of_lt x.isLt
theorem half0' (x : Fin 640) : x.val % 640 = x.val := Nat.mod_eq_of_lt x.isLt
theorem half1 (x : Fin 640) : (640 + x.val) / 640 = 1 := by have := x.isLt; omega
theorem half1' (x : Fin 640) : (640 + x.val) % 640 = x.val := by have := x.isLt; omega

theorem vInit_eq (xc : Vec Ideal S3200x1280 .bf16)
    (hx : ∀ y, 64 ≤ (y 0).val ∧ (y 0).val < 3136 → xc y = XC A b y) (q : S64x512.Idx) :
    (vInit (WB A) xc).2 q = VR A b 0 q := by
  have hu := firstRow xc hx
  change k0_pay282 (View.ld xc (Rect.unit ![64, 0] S64x1280.size inb_S3200x1280_S64x1280_64_0)) (tap (WB A) 7) q = _
  generalize View.ld xc (Rect.unit ![64, 0] S64x1280.size inb_S3200x1280_S64x1280_64_0) = u at hu ⊢
  idx_vars q
  pointwise [k0_pay282, tap_apply, VR, ver, hu, half0, half0']
  rw [prod_row A b 1 0 _ _ (.inl rfl), zero_add]
  rfl

theorem qInit_eq (xc : Vec Ideal S3200x1280 .bf16)
    (hx : ∀ y, 64 ≤ (y 0).val ∧ (y 0).val < 3136 → xc y = XC A b y) (q : S64x512.Idx) :
    (qInit (WB A) xc).2 q = QR A b 0 q := by
  have hu := firstRow xc hx
  change k0_pay286 (View.ld xc (Rect.unit ![64, 0] S64x1280.size inb_S3200x1280_S64x1280_64_0))
    (k0_pay283 (View.ld xc (Rect.unit ![64, 0] S64x1280.size inb_S3200x1280_S64x1280_64_0))) (tap (WB A) 6)
    (constant S64x512 .f32 0#32) (tap (WB A) 8) q = _
  generalize View.ld xc (Rect.unit ![64, 0] S64x1280.size inb_S3200x1280_S64x1280_64_0) = u at hu ⊢
  idx_vars q
  pointwise [k0_pay286, k0_pay283, tap_apply, QR, dia, hu, half0, half0', half1, half1']
  rw [prod_row A b 0 0 _ _ (.inl rfl), prod_row A b 2 0 _ _ (.inl rfl), zero_add, zero_add]
  rfl

/-- After its store the buffer of horizontal border products holds them. -/
theorem hl_holds {sig : RefSig} {κ : Kind} {sp : Space} (v : View sig κ sp S48x512 .f32) (f : v.ty.Contents (Elt Ideal)) :
    v.read (Elt Ideal) (v.writes (Elt Ideal) f (hlPieces (WB A) (X0 A b))) = HL A b := by
  refine read_writes_eq v f _ _ (fun p hp x => ?_) (fun y hy => ?_)
  · obtain rfl := List.mem_singleton.mp hp
    refine (hlPiece_eq x).trans (congrArg (HL A b) (funext fun a => Fin.ext ?_))
    fin_cases a
    · show (x 0).val = 0 + 1 * (x 0).val; omega
    · show (x 1).val = 0 + 1 * (x 1).val; omega
  · exfalso
    refine hy _ List.mem_cons_self ((Rect.mem_set_unit (inb := inb_S48x512_S48x512_0_0)).mpr fun a => ?_)
    fin_cases a
    · exact ⟨Nat.zero_le _, (y 0).isLt⟩
    · exact ⟨Nat.zero_le _, (y 1).isLt⟩

/-- Before the copy of row 0 the buffer of diagonal border products holds them but in row 7. -/
theorem xl_before {sig : RefSig} {κ : Kind} {sp : Space} (v : View sig κ sp S56x512 .f32) (f : v.ty.Contents (Elt Ideal)) :
    v.read (Elt Ideal) (v.writes (Elt Ideal) f (xlPieces (WB A) (X0 A b))) =
      fun y => if 8 ≤ (y 0).val then XL A b y else prod A b 8 ((y 0).val + 1) 1 (y 1).val := by
  refine read_writes_eq v f _ _ (fun p hp x => ?_) (fun y hy => ?_)
  · rcases List.mem_cons.mp hp with rfl | hp
    · change S8x512.Idx at x
      have hx : (x 0).val < 8 := (x 0).isLt
      rw [if_neg (by show ¬ 8 ≤ 0 + 1 * (x 0).val; omega)]
      refine (xlFirst_eq x).trans ?_
      show _ = prod A b 8 (0 + 1 * (x 0).val + 1) 1 (0 + 1 * (x 1).val)
      congr 1 <;> omega
    · obtain rfl := List.mem_singleton.mp hp
      change S48x512.Idx at x
      rw [if_pos (by show 8 ≤ 8 + 1 * (x 0).val; omega), XL, if_pos (by show 7 ≤ 8 + 1 * (x 0).val; omega)]
      refine (xlPiece_eq x).trans ?_
      show _ = prod A b 2 (8 + 1 * (x 0).val - 7) 1 (0 + 1 * (x 1).val)
        + prod A b 8 (8 + 1 * (x 0).val - 6) 1 (0 + 1 * (x 1).val)
      congr 2 <;> omega
  · exfalso
    have hy0 : (y 0).val < 56 := (y 0).isLt
    by_cases h : (y 0).val < 8
    · refine hy _ List.mem_cons_self ((Rect.mem_set_unit (inb := inb_S56x512_S8x512_0_0)).mpr fun a => ?_)
      fin_cases a
      · exact ⟨Nat.zero_le _, by show (y 0).val < 0 + 8; omega⟩
      · exact ⟨Nat.zero_le _, (y 1).isLt⟩
    · refine hy _ (List.mem_cons_of_mem _ List.mem_cons_self)
        ((Rect.mem_set_unit (inb := inb_S56x512_S48x512_8_0)).mpr fun a => ?_)
      fin_cases a
      · show 8 ≤ (y 0).val ∧ (y 0).val < 8 + 48; omega
      · exact ⟨Nat.zero_le _, (y 1).isLt⟩

/-- With the copy it holds them. -/
theorem xl_holds {sig : RefSig} {κ : Kind} {sp : Space} (v : View sig κ sp S56x512 .f32) (f : v.ty.Contents (Elt Ideal))
    (l : Vec Ideal S56x512 .f32) (hl : l = fun y => if 8 ≤ (y 0).val then XL A b y else prod A b 8 ((y 0).val + 1) 1 (y 1).val) :
    v.read (Elt Ideal) (v.writes (Elt Ideal) f (xlCopy l :: xlPieces (WB A) (X0 A b))) = XL A b := by
  have hcopy : ∀ x : S1x512.Idx, (xlCopy l).2 x = XL A b ((xlCopy l).1.emb x) := fun x => by
    change k0_pay281 (View.ld l (Rect.unit ![0, 0] S1x512.size inb_S56x512_S1x512_0_0)) x = _
    have hx : (x 0).val = 0 := by have : (x 0).val < 1 := (x 0).isLt; omega
    rw [XL, if_pos (by show 7 ≤ 7 + 1 * (x 0).val; omega), k0_pay281, shapeCast_id, hl]
    show (if 8 ≤ 0 + 1 * (x 0).val then _ else prod A b 8 (0 + 1 * (x 0).val + 1) 1 (0 + 1 * (x 1).val)) =
      prod A b 2 (7 + 1 * (x 0).val - 7) 1 (0 + 1 * (x 1).val) + prod A b 8 (7 + 1 * (x 0).val - 6) 1 (0 + 1 * (x 1).val)
    rw [if_neg (by omega), hx, prod_row A b 2 _ _ _ (.inl rfl)]
    exact (zero_add _).symm
  show v.read (Elt Ideal) (v.writes (Elt Ideal) (v.writes (Elt Ideal) f (xlPieces (WB A) (X0 A b))) [xlCopy l]) = _
  refine read_writes_eq v _ _ _ (fun p hp x => ?_) (fun y hy => ?_)
  · obtain rfl := List.mem_singleton.mp hp
    exact hcopy x
  · rw [xl_before (A := A) (b := b) v f]
    by_cases h : 8 ≤ (y 0).val
    · exact if_pos h
    · have h7 : (y 0).val ≠ 7 := fun h7 => hy _ List.mem_cons_self
        ((Rect.mem_set_unit (inb := inb_S56x512_S1x512_7_0)).mpr fun a => by
          fin_cases a
          · show 7 ≤ (y 0).val ∧ (y 0).val < 7 + 1; omega
          · exact ⟨Nat.zero_le _, (y 1).isLt⟩)
      rw [XL, if_neg (by omega)]
      exact if_neg h

/-- A buffer one row of products is stored to whole holds that row. -/
theorem row_holds {sig : RefSig} {κ : Kind} {sp : Space} (v : View sig κ sp S64x512 .f32) (f : v.ty.Contents (Elt Ideal))
    (w g : Vec Ideal S64x512 .f32) (tl : List (View.Piece (Elt Ideal) S64x512 .f32)) (h : ∀ q, w q = g q) :
    v.read (Elt Ideal) (v.writes (Elt Ideal) f
      (⟨Rect.unit ![0, 0] S64x512.size inb_S64x512_S64x512_0_0, w⟩ :: tl)) = g := by
  show v.read (Elt Ideal) (v.writes (Elt Ideal) (v.writes (Elt Ideal) f tl) [_]) = _
  refine read_writes_eq v _ _ _ (fun p hp x => ?_) (fun y hy => ?_)
  · obtain rfl := List.mem_singleton.mp hp
    refine (h x).trans (congrArg g (funext fun a => Fin.ext ?_))
    fin_cases a
    · show (x 0).val = 0 + 1 * (x 0).val; omega
    · show (x 1).val = 0 + 1 * (x 1).val; omega
  · exfalso
    refine hy _ List.mem_cons_self ((Rect.mem_set_unit (inb := inb_S64x512_S64x512_0_0)).mpr fun a => ?_)
    fin_cases a
    · exact ⟨Nat.zero_le _, (y 0).isLt⟩
    · exact ⟨Nat.zero_le _, (y 1).isLt⟩

end Cert.KernelIdeal.Fam

end
-- ==== Proof.Tile.lean ====
/- What one grid point computes: the products of a tile of four image rows, and its eight output rows. -/
module

public import proofs.«01_k».proof.Proof.Products

@[expose] public section

set_option maxRecDepth 16384

noncomputable section

namespace Cert.KernelIdeal.Fam

open Idealize.ShloMosaic Cert.KernelIdeal.Gen Cert.Conv

variable {A : Args} {b : ℕ} (i : grid0.Coords)

theorem off1_eq : k0_off1 i = ![64 * (4 * (i 1).val + 1), 0] := by
  have h : ∀ j : Fin 12, (k0_off1 (fun a => match a with | 0 => (0 : Fin 12) | 1 => j)) 0 = 64 * (4 * j.val + 1) := by decide
  funext a; fin_cases a
  · exact h (i 1)
  · rfl

theorem off2_eq : k0_off2 i = ![64 * (4 * (i 1).val + 2), 0] := by
  have h : ∀ j : Fin 12, (k0_off2 (fun a => match a with | 0 => (0 : Fin 12) | 1 => j)) 0 = 64 * (4 * j.val + 2) := by decide
  funext a; fin_cases a
  · exact h (i 1)
  · rfl

theorem off3_eq (k : Fin 4) : k0_off3 i (BitVec.ofNat 32 k.val) = ![4 * (i 1).val + k.val, 0] := by
  have h : ∀ (j : Fin 12) (k : Fin 4), (k0_off3 (fun a => match a with | 0 => (0 : Fin 12) | 1 => j) (BitVec.ofNat 32 k.val)) 0
      = 4 * j.val + k.val := by decide
  funext a; fin_cases a
  · exact h (i 1) k
  · rfl

theorem off4_eq (k : Fin 4) (a : Fin 2) :
    k0_off4 i (BitVec.ofNat 32 k.val) (BitVec.ofNat 32 a.val) = ![4 * (i 1).val + k.val + 7 + a.val, 0] := by
  have h : ∀ (j : Fin 12) (k : Fin 4) (a : Fin 2),
      (k0_off4 (fun a => match a with | 0 => (0 : Fin 12) | 1 => j) (BitVec.ofNat 32 k.val) (BitVec.ofNat 32 a.val)) 0
      = 4 * j.val + k.val + 7 + a.val := by decide
  funext x; fin_cases x
  · exact h (i 1) k a
  · rfl

/-- The tile's rows of the bordered image. -/
theorem cur_apply (r : Fin 256) (k : Fin 1280) :
    cur (XC A b) i (ix2 r k) = pix A b (4 * (i 1).val + 1 + r.val / 64) (r.val % 64 + 1 + k.val / 640) (k.val % 640) := by
  show pix A b ((k0_off1 i 0 + 1 * r.val) / 64) ((k0_off1 i 0 + 1 * r.val) % 64 + 1 + (k0_off1 i 1 + 1 * k.val) / 640)
    ((k0_off1 i 1 + 1 * k.val) % 640) = _
  rw [off1_eq]
  show pix A b ((64 * (4 * (i 1).val + 1) + 1 * r.val) / 64) ((64 * (4 * (i 1).val + 1) + 1 * r.val) % 64 + 1
    + (0 + 1 * k.val) / 640) ((0 + 1 * k.val) % 640) = _
  congr 1 <;> omega

/-- The rows one further down. -/
theorem nxt_apply (r : Fin 256) (k : Fin 1280) :
    nxt (XC A b) i (ix2 r k) = pix A b (4 * (i 1).val + 1 + r.val / 64 + 1) (r.val % 64 + 1 + k.val / 640) (k.val % 640) := by
  show pix A b ((k0_off2 i 0 + 1 * r.val) / 64) ((k0_off2 i 0 + 1 * r.val) % 64 + 1 + (k0_off2 i 1 + 1 * k.val) / 640)
    ((k0_off2 i 1 + 1 * k.val) % 640) = _
  rw [off2_eq]
  show pix A b ((64 * (4 * (i 1).val + 2) + 1 * r.val) / 64) ((64 * (4 * (i 1).val + 2) + 1 * r.val) % 64 + 1
    + (0 + 1 * k.val) / 640) ((0 + 1 * k.val) % 640) = _
  congr 1 <;> omega

/-- The centre products of the tile, with the bias. -/
theorem cTile_apply (x4 : Vec Ideal S1x512 .f32) (h4 : ∀ y, x4 y = A.b (y 1).val) (q : S256x512.Idx) :
    cTile (WB A) (XC A b) x4 i q = cen A b (4 * (i 1).val + 1 + (q 0).val / 64) ((q 0).val % 64 + 1) (q 1).val := by
  have hc := cur_apply (A := A) (b := b) i
  unfold cTile
  generalize cur (XC A b) i = u at hc ⊢
  idx_vars q
  pointwise [k0_pay291, k0_pay287, tap_apply, hc, half0, half0', cen, prod, h4]
  done

theorem hTile_apply (q : S256x512.Idx) :
    hTile (WB A) (XC A b) i q = hor A b (4 * (i 1).val + 1 + (q 0).val / 64) ((q 0).val % 64 + 1) (q 1).val := by
  have hc := cur_apply (A := A) (b := b) i
  unfold hTile
  generalize cur (XC A b) i = u at hc ⊢
  idx_vars q
  pointwise [k0_pay292, k0_pay287, k0_pay288, tap_apply, hc, half0, half0', half1, half1', hor, prod]
  done

theorem vTile_apply (q : S256x512.Idx) :
    vTile (WB A) (XC A b) i q = ver A b (4 * (i 1).val + 1 + (q 0).val / 64) ((q 0).val % 64 + 1) (q 1).val := by
  have hc := cur_apply (A := A) (b := b) i
  have hn := nxt_apply (A := A) (b := b) i
  unfold vTile
  generalize cur (XC A b) i = u at hc ⊢
  generalize nxt (XC A b) i = u' at hn ⊢
  idx_vars q
  pointwise [k0_pay293, k0_pay287, k0_pay289, tap_apply, hc, hn, half0, half0', ver, prod]
  done

theorem qTile_apply (q : S256x512.Idx) :
    qTile (WB A) (XC A b) i q = dia A b (4 * (i 1).val + 1 + (q 0).val / 64) ((q 0).val % 64 + 1) (q 1).val := by
  have hc := cur_apply (A := A) (b := b) i
  have hn := nxt_apply (A := A) (b := b) i
  unfold qTile
  generalize cur (XC A b) i = u at hc ⊢
  generalize nxt (XC A b) i = u' at hn ⊢
  idx_vars q
  pointwise [k0_pay294, k0_pay287, k0_pay288, k0_pay289, k0_pay290, tap_apply, hc, hn, half0, half0', half1, half1', dia, prod]
  done

/-- A row of a tile. -/
theorem rowOf_apply (v : FVec Ideal S256x512 .f32) (k : Fin 4) (q : S64x512.Idx) (g : ℕ → ℕ → ℕ → EReal)
    (hv : ∀ y, v y = g (4 * (i 1).val + 1 + (y 0).val / 64) ((y 0).val % 64 + 1) (y 1).val) :
    rowOf v k q = g (4 * (i 1).val + 1 + k.val) ((q 0).val + 1) (q 1).val := by
  have hq : (q 0).val < 64 := (q 0).isLt
  idx_vars q
  pointwise [rowOf, hv]
  congr 1 <;> omega

/-- The row above output row `(k, a)`. -/
theorem above_apply (v : FVec Ideal S256x512 .f32) (v0 : Vec Ideal S64x512 .f32) (k : Fin 4) (a : Fin 2) (q : S64x512.Idx)
    (g : ℕ → ℕ → ℕ → EReal) (hv : ∀ y, v y = g (4 * (i 1).val + 1 + (y 0).val / 64) ((y 0).val % 64 + 1) (y 1).val)
    (h0 : ∀ y, v0 y = g (4 * (i 1).val) ((y 0).val + 1) (y 1).val) :
    above v v0 k a q = g (4 * (i 1).val + k.val + a.val) ((q 0).val + 1) (q 1).val := by
  unfold above
  obtain rfl | rfl : a = 0 ∨ a = 1 := by omega
  · rw [if_neg (by decide)]
    match k with
    | 0 =>
      refine (h0 _).trans ?_
      show g (4 * (i 1).val) (0 + 1 * (q 0).val + 1) (0 + 1 * (q 1).val) = g (4 * (i 1).val + 0 + 0) _ _
      congr 1 <;> omega
    | 1 => exact rowOf_apply i v 0 q g hv
    | 2 => exact rowOf_apply i v 1 q g hv
    | 3 => exact rowOf_apply i v 2 q g hv
  · rw [if_pos rfl, rowOf_apply i v k q g hv]
    show g _ _ _ = g (4 * (i 1).val + k.val + 1) _ _
    congr 1; omega

/-- The mask of a row's first element. -/
theorem select_first (n : ℕ) (hn : n < 64) (u v : EReal) :
    Scalar.select (IntOp.cmpi CmpIPredicate.eq (BitVec.ofNat 32 n) 0#32) u v = if n = 0 then u else v := by
  have h : ∀ n : Fin 64, IntOp.cmpi CmpIPredicate.eq (BitVec.ofNat 32 n.val) 0#32 = if n.val = 0 then 1#1 else 0#1 := by
    decide
  rw [h ⟨n, hn⟩]
  by_cases h0 : n = 0
  · rw [if_pos h0, if_pos h0]; rfl
  · rw [if_neg h0, if_neg h0]; rfl

/-- An output row: the even columns take the products of the pixel before, the first of them the border's. -/
theorem rowOut_apply (cv hx : FVec Ideal S64x512 .f32) (hl xl : Vec Ideal S1x512 .f32) (q : S1x1x128x512.Idx)
    (C H : ℕ → ℕ → EReal) (hc : ∀ y, cv y = C (y 0).val (y 1).val) (hh : ∀ y, hx y = H ((y 0).val + 1) (y 1).val)
    (hb : ∀ y, hl y + xl y = H 0 (y 1).val) :
    rowOut cv hx hl xl q = C ((q 2).val / 2) (q 3).val + H (((q 2).val + 1) / 2) (q 3).val := by
  idx_vars q
  pointwise [rowOut, k0_pay300, k0_pay295, hc, hh]
  have h2 := q2.isLt
  rw [select_first _ (by omega), hb]
  split
  · rename_i he
    congr 1
    split
    · rename_i h0
      rw [show (q2.val + 1) / 2 = 0 by omega]; rfl
    · congr 1; omega
  · congr 2; omega

/-- A row of the border's diagonal products, as it is loaded. -/
theorem xl_load {r : ℕ} (off : Fin 2 → ℕ) (inb : ∀ a, off a + S1x512.size a ≤ S56x512.size a) (h : off = ![r, 0])
    (y : S1x512.Idx) : View.ld (XL A b) (Rect.unit off S1x512.size inb) y =
      if 7 ≤ r then prod A b 2 (r - 7) 1 (y 1).val + prod A b 8 (r - 6) 1 (y 1).val else prod A b 8 (r + 1) 1 (y 1).val := by
  subst h
  have hy : r + 1 * (y 0).val = r := by have : (y 0).val < 1 := (y 0).isLt; omega
  have hy1 : 0 + 1 * (y 1).val = (y 1).val := by omega
  show (if 7 ≤ r + 1 * (y 0).val then prod A b 2 (r + 1 * (y 0).val - 7) 1 (0 + 1 * (y 1).val)
      + prod A b 8 (r + 1 * (y 0).val - 6) 1 (0 + 1 * (y 1).val)
    else prod A b 8 (r + 1 * (y 0).val + 1) 1 (0 + 1 * (y 1).val)) = _
  rw [hy, hy1]

/-- Output row `(k, a)` of tile `i`. -/
theorem outPiece_eq (x4 : Vec Ideal S1x512 .f32) (h4 : ∀ y, x4 y = A.b (y 1).val) (k : Fin 4) (a : Fin 2)
    (q : S1x1x128x512.Idx) :
    (outPiece i (WB A) (XC A b) x4 (VR A b (4 * (i 1).val)) (QR A b (4 * (i 1).val)) (HL A b) (XL A b) k a).2 q
      = kernelOut A b (8 * (i 1).val + (2 * k.val + a.val)) (q 2).val (q 3).val := by
  have hi : (i 1).val < 12 := (i 1).isLt
  have hk := k.isLt
  have ha := a.isLt
  refine (rowOut_apply _ _ _ _ q
    (fun r d => cen A b (4 * (i 1).val + 1 + k.val) (r + 1) d + ver A b (4 * (i 1).val + k.val + a.val) (r + 1) d)
    (fun J d => hor A b (4 * (i 1).val + 1 + k.val) J d + dia A b (4 * (i 1).val + k.val + a.val) J d)
    (fun y => ?_) (fun y => ?_) (fun y => ?_)).trans ?_
  · exact congrArg₂ (fun u v : EReal => u + v)
      (rowOf_apply i _ k y (cen A b) (cTile_apply i x4 h4))
      (above_apply i _ _ k a y (ver A b) (vTile_apply i) fun _ => rfl)
  · exact congrArg₂ (fun u v : EReal => u + v)
      (rowOf_apply i _ k y (hor A b) (hTile_apply i))
      (above_apply i _ _ k a y (dia A b) (qTile_apply i) fun _ => rfl)
  · have hy : (y 0).val = 0 := by have : (y 0).val < 1 := (y 0).isLt; omega
    refine congrArg₂ (fun u v : EReal => u + v) (x' := hor A b (4 * (i 1).val + 1 + k.val) 0 (y 1).val)
      (y' := dia A b (4 * (i 1).val + k.val + a.val) 0 (y 1).val) ?_ ?_
    · show prod A b 5 (k0_off3 i (BitVec.ofNat 32 k.val) 0 + 1 * (y 0).val + 1) 1
        (k0_off3 i (BitVec.ofNat 32 k.val) 1 + 1 * (y 1).val) = _
      rw [off3_eq, hor, prod_col A b 3 _ _ _ (.inl rfl), zero_add, hy]
      show prod A b 5 (4 * (i 1).val + k.val + 1 * 0 + 1) 1 (0 + 1 * (y 1).val) = _
      congr 1 <;> omega
    · refine (xl_load _ _ (off4_eq i k a) y).trans ?_
      rw [dia, prod_col A b 0 _ _ _ (.inl rfl), prod_col A b 6 _ _ _ (.inl rfl), zero_add, add_zero, if_pos (by omega)]
      congr 2 <;> omega
  · rw [kernelOut, show (8 * (i 1).val + (2 * k.val + a.val)) / 2 + 1 = 4 * (i 1).val + 1 + k.val by omega,
      show (8 * (i 1).val + (2 * k.val + a.val) + 1) / 2 = 4 * (i 1).val + k.val + a.val by omega]

/-- The output block of image `b`'s tile `tt`. -/
def OUT (A : Args) (b tt : ℕ) : Vec Ideal S1x8x128x512 .bf16 := fun y =>
  kernelOut A b (8 * tt + (y 1).val) (y 2).val (y 3).val

/-- After a tile's stores the output block holds its eight rows. -/
theorem out_holds {sig : RefSig} {κ : Kind} {sp : Space} (v : View sig κ sp S1x8x128x512 .bf16)
    (f : v.ty.Contents (Elt Ideal)) (x4 : Vec Ideal S1x512 .f32) (h4 : ∀ y, x4 y = A.b (y 1).val) :
    v.read (Elt Ideal) (v.writes (Elt Ideal) f
      (outPieces i (WB A) (XC A b) x4 (VR A b (4 * (i 1).val)) (QR A b (4 * (i 1).val)) (HL A b) (XL A b)))
      = OUT A b (i 1).val := by
  refine read_writes_eq v f _ _ (fun p hp x => ?_) (fun y hy => ?_)
  · have hall : ∀ (k : Fin 4) (a : Fin 2) (q : S1x1x128x512.Idx),
        (outPiece i (WB A) (XC A b) x4 (VR A b (4 * (i 1).val)) (QR A b (4 * (i 1).val)) (HL A b) (XL A b) k a).2 q
        = OUT A b (i 1).val
          ((outPiece i (WB A) (XC A b) x4 (VR A b (4 * (i 1).val)) (QR A b (4 * (i 1).val)) (HL A b) (XL A b) k a).1.emb q) :=
      fun k a q => by
        have hq : (q 1).val = 0 := by have : (q 1).val < 1 := (q 1).isLt; omega
        refine (outPiece_eq i x4 h4 k a q).trans ?_
        show _ = kernelOut A b (8 * (i 1).val + (2 * k.val + a.val + 1 * (q 1).val)) (0 + 1 * (q 2).val) (0 + 1 * (q 3).val)
        rw [hq]; congr 1 <;> omega
    rcases mem_down.mp hp with ⟨k, hk⟩ | hk
    · rcases List.mem_cons.mp hk with rfl | hk
      · exact hall k 1 x
      · obtain rfl := List.mem_singleton.mp hk
        exact hall k 0 x
    · simp at hk
  · exfalso
    have h1 : (y 1).val < 8 := (y 1).isLt
    have hc : ∀ c : Fin 2, c = 0 ∨ c = 1 := by decide
    let k : Fin 4 := ⟨(y 1).val / 2, by omega⟩
    let a : Fin 2 := ⟨(y 1).val % 2, by omega⟩
    refine hy (outPiece i (WB A) (XC A b) x4 (VR A b (4 * (i 1).val)) (QR A b (4 * (i 1).val)) (HL A b) (XL A b) k a)
      (mem_down.mpr (.inl ⟨k, ?_⟩)) ((Rect.mem_set_unit (inb := inbOut k a)).mpr fun x => ?_)
    · rcases hc a with h | h
      · rw [h]; exact List.mem_cons_of_mem _ List.mem_cons_self
      · rw [h]; exact List.mem_cons_self
    · fin_cases x
      · exact ⟨Nat.zero_le _, (y 0).isLt⟩
      · show 2 * ((y 1).val / 2) + (y 1).val % 2 ≤ (y 1).val ∧ (y 1).val < 2 * ((y 1).val / 2) + (y 1).val % 2 + 1; omega
      · exact ⟨Nat.zero_le _, (y 2).isLt⟩
      · exact ⟨Nat.zero_le _, (y 3).isLt⟩

/-- The vertical products of the tile's last row, as the next tile finds them. -/
theorem vPiece_eq (q : S64x512.Idx) : (vPiece i (WB A) (XC A b)).2 q = VR A b (4 * ((i 1).val + 1)) q := by
  have h := vTile_apply (A := A) (b := b) i
  change k0_pay3 (vTile (WB A) (XC A b) i) q = _
  generalize vTile (WB A) (XC A b) i = u at h ⊢
  have hq : (q 0).val < 64 := (q 0).isLt
  idx_vars q
  pointwise [k0_pay3, h, VR]
  congr 1 <;> omega

theorem qPiece_eq (q : S64x512.Idx) : (qPiece i (WB A) (XC A b)).2 q = QR A b (4 * ((i 1).val + 1)) q := by
  have h := qTile_apply (A := A) (b := b) i
  change k0_pay4 (qTile (WB A) (XC A b) i) q = _
  generalize qTile (WB A) (XC A b) i = u at h ⊢
  have hq : (q 0).val < 64 := (q 0).isLt
  idx_vars q
  pointwise [k0_pay4, h, QR]
  congr 1 <;> omega

end Cert.KernelIdeal.Fam

end
-- ==== Proof.Cases.lean ====
/- What each case of a grid point leaves, from what it finds, in the terms of `Spec.lean`. -/
module

public import proofs.«01_k».proof.Proof.Runs
public import proofs.«01_k».proof.Proof.Tile
public import proofs.«01_k».proof.Proof.Gen.KernelIdeal.Frame

@[expose] public section

set_option maxRecDepth 16384

noncomputable section

namespace Cert.KernelIdeal.Fam

open Idealize.ShloMosaic Idealize.ShloMosaic.TcCoe Idealize.SL.Sem Cert.KernelIdeal.Gen Cert.Conv

variable {A : Args} {b b' : ℕ}

/-- What a point of image `b` finds staged: the image and its scales, the weights and theirs, the bias. -/
structure Staged (A : Args) (b : ℕ) (x0 : Vec Ideal S1x3072x640 .fp8e4m3) (x1 : Vec Ideal S1x48x64 .f32)
    (x2 : Vec Ideal S5760x512 .fp8e4m3) (x3 : Vec Ideal S5x512 .f32) (x4 : Vec Ideal S1x512 .f32) : Prop where
  h0 : ∀ y, x0 y = A.x b ((y 1).val / 64) ((y 1).val % 64) (y 2).val
  h1 : ∀ y, x1 y = A.s b (y 1).val (y 2).val
  h2 : ∀ y, x2 y = A.w ((y 0).val / 640) ((y 0).val % 640) (y 1).val
  h3 : ∀ y, x3 y = A.ws (y 0).val (y 1).val
  h4 : ∀ y, x4 y = A.b (y 1).val

variable {c : Dev nD} {i : grid0.Coords}
  {arg2 : Memref sig .tc .vmem S1x3072x640 .fp8e4m3} {harg2 : arg2.IsWhole}
  {arg3 : Memref sig .tc .vmem S1x48x64 .f32} {harg3 : arg3.IsWhole}
  {arg4 : Memref sig .tc .vmem S5760x512 .fp8e4m3} {harg4 : arg4.IsWhole}
  {arg5 : Memref sig .tc .vmem S5x512 .f32} {harg5 : arg5.IsWhole}
  {arg6 : Memref sig .tc .vmem S1x512 .f32} {harg6 : arg6.IsWhole}
  {arg7 : Memref sig .tc .vmem S1x8x128x512 .bf16} {harg7 : arg7.IsWhole}
  {arg8 : Memref sig .tc .vmem S5760x512 .bf16} {harg8 : arg8.IsWhole}
  {arg9 : Memref sig .tc .vmem S3200x1280 .bf16} {harg9 : arg9.IsWhole}
  {arg10 : Memref sig .tc .vmem S56x640 .f32} {harg10 : arg10.IsWhole}
  {arg11 : Memref sig .tc .vmem S64x512 .f32} {harg11 : arg11.IsWhole}
  {arg12 : Memref sig .tc .vmem S64x512 .f32} {harg12 : arg12.IsWhole}
  {arg13 : Memref sig .tc .vmem S48x512 .f32} {harg13 : arg13.IsWhole}
  {arg14 : Memref sig .tc .vmem S56x512 .f32} {harg14 : arg14.IsWhole}
  {x0 : Vec Ideal S1x3072x640 .fp8e4m3} {x1 : Vec Ideal S1x48x64 .f32} {x2 : Vec Ideal S5760x512 .fp8e4m3}
  {x3 : Vec Ideal S5x512 .f32} {x4 : Vec Ideal S1x512 .f32} {xs0 : Vec Ideal S5760x512 .bf16}
  {xs1 : Vec Ideal S3200x1280 .bf16} {xs3 xs4 : Vec Ideal S64x512 .f32} {xs5 : Vec Ideal S48x512 .f32}
  {xs6 : Vec Ideal S56x512 .f32}

/-! ### An inner tile -/

theorem caseB_out (hc0 : ¬cond0_0 i) (hc1 : ¬cond0_1 i) (h : Staged A b x0 x1 x2 x3 x4) (e0 : xs0 = WB A) (e1 : xs1 = XC A b)
    (e3 : xs3 = VR A b (4 * (i 1).val)) (e4 : xs4 = QR A b (4 * (i 1).val)) (e5 : xs5 = HL A b) (e6 : xs6 = XL A b) :
    out0_B_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      xs0 xs1 xs3 xs4 xs5 xs6 = OUT A b (i 1).val := by
  subst e0 e1 e3 e4 e5 e6
  unfold out0_B_5
  rw [runB_out]
  simp only [Memref.IsWhole.read_unread]
  exact out_holds i _ _ x4 h.h4

theorem caseB_v (hc0 : ¬cond0_0 i) (hc1 : ¬cond0_1 i) (e0 : xs0 = WB A) (e1 : xs1 = XC A b) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      xs0 xs1 xs3 xs4 xs5 xs6 = VR A b (4 * ((i 1).val + 1)) := by
  subst e0 e1
  unfold sout0_B_3
  rw [runB_v]
  simp only [Memref.IsWhole.read_unread]
  exact row_holds _ _ _ _ [] (vPiece_eq i)

theorem caseB_q (hc0 : ¬cond0_0 i) (hc1 : ¬cond0_1 i) (e0 : xs0 = WB A) (e1 : xs1 = XC A b) :
    sout0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      xs0 xs1 xs3 xs4 xs5 xs6 = QR A b (4 * ((i 1).val + 1)) := by
  subst e0 e1
  unfold sout0_B_4
  rw [runB_q]
  simp only [Memref.IsWhole.read_unread]
  exact row_holds _ _ _ _ [] (qPiece_eq i)

/-! ### An image's first tile -/

/-- The image's own rows of the buffer, whatever it held before. -/
theorem xc_rows {sig : RefSig} {κ : Kind} {sp : Space} (v : View sig κ sp S3200x1280 .bf16) (f : v.ty.Contents (Elt Ideal))
    (h : Staged A b x0 x1 x2 x3 x4) (y : S3200x1280.Idx) (hy : 64 ≤ (y 0).val ∧ (y 0).val < 3136) :
    v.read (Elt Ideal) (v.writes (Elt Ideal) f (xcPieces x0 x1 [])) y = XC A b y :=
  View.read_writes_apply_of_pieces v f (XC A b) _ (fun p hp x => by
    rcases mem_down.mp hp with ⟨i, hi⟩ | hi
    · rcases List.mem_cons.mp hi with rfl | hi
      · exact xcPiece_eq h.h0 h.h1 i 1 x
      · obtain rfl := List.mem_singleton.mp hi
        exact xcPiece_eq h.h0 h.h1 i 0 x
    · simp at hi) y (xc_mem y [] hy)

/-- The output block of an image's first tile. -/
theorem first_out {wb : Vec Ideal S5760x512 .bf16} {xc xv : Vec Ideal S3200x1280 .bf16} {z : Vec Ideal S56x640 .f32}
    {sig : RefSig} {κ : Kind} {sp : Space} (v : View sig κ sp S1x8x128x512 .bf16) (v3 v4 : View sig κ sp S64x512 .f32)
    (v5 : View sig κ sp S48x512 .f32) (v6 : View sig κ sp S56x512 .f32) (f : v.ty.Contents (Elt Ideal))
    (f3 : v3.ty.Contents (Elt Ideal)) (f4 : v4.ty.Contents (Elt Ideal)) (f5 : v5.ty.Contents (Elt Ideal))
    (f6 : v6.ty.Contents (Elt Ideal)) (h4 : ∀ y, x4 y = A.b (y 1).val) (hi : (i 1).val = 0) (hw : wb = WB A)
    (hx : xc = XC A b) (hv : ∀ y, 64 ≤ (y 0).val ∧ (y 0).val < 3136 → xv y = XC A b y) (hz : z = X0 A b) :
    v.read (Elt Ideal) (v.writes (Elt Ideal) f (outPieces i wb xc x4
      (v3.read (Elt Ideal) (v3.writes (Elt Ideal) f3 [vInit wb xv])) (v4.read (Elt Ideal) (v4.writes (Elt Ideal) f4 [qInit wb xv]))
      (v5.read (Elt Ideal) (v5.writes (Elt Ideal) f5 (hlPieces wb z)))
      (v6.read (Elt Ideal) (v6.writes (Elt Ideal) f6
        (xlCopy (v6.read (Elt Ideal) (v6.writes (Elt Ideal) f6 (xlPieces wb z))) :: xlPieces wb z)))))
      = OUT A b (i 1).val := by
  subst hw hx hz
  have e3 : v3.read (Elt Ideal) (v3.writes (Elt Ideal) f3 [vInit (WB A) xv]) = VR A b (4 * (i 1).val) := by
    rw [hi]; exact row_holds v3 f3 _ _ [] (vInit_eq xv hv)
  have e4 : v4.read (Elt Ideal) (v4.writes (Elt Ideal) f4 [qInit (WB A) xv]) = QR A b (4 * (i 1).val) := by
    rw [hi]; exact row_holds v4 f4 _ _ [] (qInit_eq xv hv)
  rw [e3, e4, hl_holds, xl_holds v6 f6 _ (xl_before v6 f6)]
  exact out_holds i v f x4 h4

/-- The image replaces the one before it. -/
theorem caseC_image (e1 : xs1 = XC A b') (h : Staged A b x0 x1 x2 x3 x4) :
    arg9.view.read (Elt Ideal) (arg9.view.writes (Elt Ideal) (harg9.unread xs1) (xcPieces x0 x1 [])) = XC A b :=
  xc_holds _ _ h.h0 h.h1 fun y hy => by rw [Memref.IsWhole.read_unread, e1, XC_pad y hy, XC_pad y hy]

theorem caseC_out (hc0 : ¬cond0_0 i) (hc1 : cond0_1 i) (h : Staged A b x0 x1 x2 x3 x4) (hi : (i 1).val = 0) (e0 : xs0 = WB A) (e1 : xs1 = XC A b') :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1
      = OUT A b (i 1).val := by
  unfold out0_C_5
  rw [runC_out]
  simp only [Memref.IsWhole.read_unread]
  exact first_out _ _ _ _ _ _ _ _ _ _ h.h4 hi e0 (caseC_image e1 h) (xc_rows _ _ h) (x0_holds _ _ h.h0 h.h1)

theorem caseC_xc (hc0 : ¬cond0_0 i) (hc1 : cond0_1 i) (h : Staged A b x0 x1 x2 x3 x4) (e1 : xs1 = XC A b') :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1
      = XC A b := by
  unfold sout0_C_1
  rw [runC_xc]
  simp only [Memref.IsWhole.read_unread]
  exact (caseC_image e1 h)

theorem caseC_v (hc0 : ¬cond0_0 i) (hc1 : cond0_1 i) (h : Staged A b x0 x1 x2 x3 x4) (e0 : xs0 = WB A) (e1 : xs1 = XC A b') :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1
      = VR A b (4 * ((i 1).val + 1)) := by
  unfold sout0_C_3
  rw [runC_v]
  simp only [Memref.IsWhole.read_unread]
  rw [e0, show _ = XC A b from (caseC_image e1 h)]
  exact row_holds _ _ _ _ _ (vPiece_eq i)

theorem caseC_q (hc0 : ¬cond0_0 i) (hc1 : cond0_1 i) (h : Staged A b x0 x1 x2 x3 x4) (e0 : xs0 = WB A) (e1 : xs1 = XC A b') :
    sout0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1
      = QR A b (4 * ((i 1).val + 1)) := by
  unfold sout0_C_4
  rw [runC_q]
  simp only [Memref.IsWhole.read_unread]
  rw [e0, show _ = XC A b from (caseC_image e1 h)]
  exact row_holds _ _ _ _ _ (qPiece_eq i)

theorem caseC_hl (hc0 : ¬cond0_0 i) (hc1 : cond0_1 i) (h : Staged A b x0 x1 x2 x3 x4) (e0 : xs0 = WB A) :
    sout0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1
      = HL A b := by
  unfold sout0_C_5
  rw [runC_hl]
  simp only [Memref.IsWhole.read_unread]
  rw [e0, show _ = X0 A b from (x0_holds _ _ h.h0 h.h1)]
  exact hl_holds _ _

theorem caseC_xl (hc0 : ¬cond0_0 i) (hc1 : cond0_1 i) (h : Staged A b x0 x1 x2 x3 x4) (e0 : xs0 = WB A) :
    sout0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1
      = XL A b := by
  unfold sout0_C_6
  rw [runC_xl]
  simp only [Memref.IsWhole.read_unread]
  rw [e0, show _ = X0 A b from (x0_holds _ _ h.h0 h.h1)]
  exact xl_holds _ _ _ (xl_before _ _)

/-! ### The first tile of all -/

theorem caseA_out (hc0 : cond0_0 i) (hc1 : cond0_1 i) (h : Staged A b x0 x1 x2 x3 x4) (hi : (i 1).val = 0)  :
    out0_A_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = OUT A b (i 1).val := by
  unfold out0_A_5
  rw [runA_out]
  simp only [Memref.IsWhole.read_unread]
  exact first_out _ _ _ _ _ _ _ _ _ _ h.h4 hi (w_holds _ _ h.h2 h.h3) (xc_holds_first _ _ h.h0 h.h1) (fun y _ => congrFun (xc_holds_first _ _ h.h0 h.h1) y) (x0_holds _ _ h.h0 h.h1)

theorem caseA_w (hc0 : cond0_0 i) (hc1 : cond0_1 i) (h : Staged A b x0 x1 x2 x3 x4) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = WB A := by
  unfold sout0_A_0
  rw [runA_w]
  simp only [Memref.IsWhole.read_unread]
  exact (w_holds _ _ h.h2 h.h3)

theorem caseA_xc (hc0 : cond0_0 i) (hc1 : cond0_1 i) (h : Staged A b x0 x1 x2 x3 x4) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = XC A b := by
  unfold sout0_A_1
  rw [runA_xc]
  simp only [Memref.IsWhole.read_unread]
  exact (xc_holds_first _ _ h.h0 h.h1)

theorem caseA_v (hc0 : cond0_0 i) (hc1 : cond0_1 i) (h : Staged A b x0 x1 x2 x3 x4)  :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = VR A b (4 * ((i 1).val + 1)) := by
  unfold sout0_A_3
  rw [runA_v]
  simp only [Memref.IsWhole.read_unread]
  rw [show _ = WB A from (w_holds _ _ h.h2 h.h3), show _ = XC A b from (xc_holds_first _ _ h.h0 h.h1)]
  exact row_holds _ _ _ _ _ (vPiece_eq i)

theorem caseA_q (hc0 : cond0_0 i) (hc1 : cond0_1 i) (h : Staged A b x0 x1 x2 x3 x4)  :
    sout0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = QR A b (4 * ((i 1).val + 1)) := by
  unfold sout0_A_4
  rw [runA_q]
  simp only [Memref.IsWhole.read_unread]
  rw [show _ = WB A from (w_holds _ _ h.h2 h.h3), show _ = XC A b from (xc_holds_first _ _ h.h0 h.h1)]
  exact row_holds _ _ _ _ _ (qPiece_eq i)

theorem caseA_hl (hc0 : cond0_0 i) (hc1 : cond0_1 i) (h : Staged A b x0 x1 x2 x3 x4)  :
    sout0_A_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = HL A b := by
  unfold sout0_A_5
  rw [runA_hl]
  simp only [Memref.IsWhole.read_unread]
  rw [show _ = WB A from (w_holds _ _ h.h2 h.h3), show _ = X0 A b from (x0_holds _ _ h.h0 h.h1)]
  exact hl_holds _ _

theorem caseA_xl (hc0 : cond0_0 i) (hc1 : cond0_1 i) (h : Staged A b x0 x1 x2 x3 x4)  :
    sout0_A_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4
      = XL A b := by
  unfold sout0_A_6
  rw [runA_xl]
  simp only [Memref.IsWhole.read_unread]
  rw [show _ = WB A from (w_holds _ _ h.h2 h.h3), show _ = X0 A b from (x0_holds _ _ h.h0 h.h1)]
  exact xl_holds _ _ _ (xl_before _ _)

end Cert.KernelIdeal.Fam

end
-- ==== Proof.Blocks.lean ====
/- What the windows stage at each grid point, as entries of the argument arrays. -/
module

public import proofs.«01_k».proof.Proof.Arrays
public import proofs.«01_k».proof.Proof.Cases

@[expose] public section

set_option maxRecDepth 16384

noncomputable section

namespace Cert.KernelIdeal.Fam

open Idealize.ShloMosaic Idealize.ShloMosaic.TcCoe Idealize.SL.Sem Cert.KernelIdeal.Gen Cert.Conv

variable (m : (x : Loc nD τ sig) → Buf (Elt Ideal) x) (c : Dev nD)

/-- The entries of the arguments device `c` holds. -/
def args : Args :=
  ofArrays (m ((c : Thread nD τ).loc main_arg0)) (m ((c : Thread nD τ).loc main_arg1)) (m ((c : Thread nD τ).loc main_arg2))
    (m ((c : Thread nD τ).loc main_arg3)) (m ((c : Thread nD τ).loc main_arg4))

/-- The region finds the image codes flattened to one row per pixel, -/
theorem V_v0 : V m c main_v0 = shapeCast S12x3072x640 (m ((c : Thread nD τ).loc main_arg0)) shapeCasts_S12x48x64x640_S12x3072x640 := by
  unfold V hostOps0
  after_results
  rfl

/-- the weight codes with tap and channel in one axis, -/
theorem V_v1 : V m c main_v1 = shapeCast S5760x512 (m ((c : Thread nD τ).loc main_arg2)) shapeCasts_S3x3x640x512_S5760x512 := by
  unfold V hostOps0
  after_results
  rfl

/-- and the bias as one row. -/
theorem V_v2 : V m c main_v2 = shapeCast S1x512 (m ((c : Thread nD τ).loc main_arg4)) shapeCasts_S512_S1x512 := by
  unfold V hostOps0
  after_results
  rfl

/-- Which blocks the windows take: the point's image of the codes and of the scales, the one block of the others. -/
theorem idx0 : ∀ t : Fin cfg0.N, win0_0.index t (0 : Fin 3) = t.val / 12 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 12 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

/-- A point's place on the grid's second axis is its tile. -/
theorem coords1 : ∀ t : Fin cfg0.N, (grid0.coords t 1).val = t.val % 12 :=
  (by decide +kernel : ∀ t : Fin grid0.N, _)

/-- What every point of image `t / 12` finds staged. -/
theorem staged (t : Fin cfg0.N) :
    Staged (args m c) (t.val / 12) (iblk m c 0 t) (iblk m c 1 t) (iblk m c 2 t) (iblk m c 3 t) (iblk m c 4 t) where
  h0 y := by
    have ht : t.val < 144 := lt_of_lt_of_eq t.isLt N_0
    have y0 : (y 0).val < 1 := (y 0).isLt
    have y1 : (y 1).val < 3072 := (y 1).isLt
    have y2 : (y 2).val < 640 := (y 2).isLt
    obtain ⟨e0, e1, e2⟩ := idx0 t
    show V m c main_v0 (((cfg0.win 0).blk t).view.emb y) = _
    have a0 : (((cfg0.win 0).blk t).view.emb y (0 : Fin 3)).val = t.val / 12 := by
      show win0_0.index t (0 : Fin 3) * 1 + 1 * (y 0).val = _; omega
    have a1 : (((cfg0.win 0).blk t).view.emb y (1 : Fin 3)).val = (y 1).val := by
      show win0_0.index t (1 : Fin 3) * 3072 + 1 * (y 1).val = _; omega
    have a2 : (((cfg0.win 0).blk t).view.emb y (2 : Fin 3)).val = (y 2).val := by
      show win0_0.index t (2 : Fin 3) * 640 + 1 * (y 2).val = _; omega
    generalize ((cfg0.win 0).blk t).view.emb y = z at a0 a1 a2 ⊢
    rw [V_v0]
    refine (shapeCast_apply _ _ z (ValueIdx.ix4 (⟨t.val / 12, by omega⟩ : Fin 12) (⟨(y 1).val / 64, by omega⟩ : Fin 48)
      (⟨(y 1).val % 64, by omega⟩ : Fin 64) (⟨(y 2).val, y2⟩ : Fin 640)) ?_).trans
      (ofArrays_x _ _ _ _ _ _ _ _ _ _ rfl rfl rfl rfl).symm
    refine (Shape.rowMajor_val_four _).trans (Eq.trans ?_ (Shape.rowMajor_val_three (d := ![12, 3072, 640]) z).symm)
    show ((t.val / 12 * 48 + (y 1).val / 64) * 64 + (y 1).val % 64) * 640 + (y 2).val
      = ((z (0 : Fin 3)).val * 3072 + (z (1 : Fin 3)).val) * 640 + (z (2 : Fin 3)).val
    omega
  h1 y := by
    have y0 : (y 0).val < 1 := (y 0).isLt
    obtain ⟨e0, e1, e2⟩ := idx1 t
    show V m c main_arg1 (((cfg0.win 1).blk t).view.emb y) = _
    rw [V_main_arg1]
    refine (ofArrays_s _ _ _ _ _ _ _ _ _ ?_ ?_ ?_).symm
    · show win0_1.index t (0 : Fin 3) * 1 + 1 * (y 0).val = _; omega
    · show win0_1.index t (1 : Fin 3) * 48 + 1 * (y 1).val = _; omega
    · show win0_1.index t (2 : Fin 3) * 64 + 1 * (y 2).val = _; omega
  h2 y := by
    have y0 : (y 0).val < 5760 := (y 0).isLt
    have y1 : (y 1).val < 512 := (y 1).isLt
    obtain ⟨e0, e1⟩ := idx2 t
    show V m c main_v1 (((cfg0.win 2).blk t).view.emb y) = _
    have a0 : (((cfg0.win 2).blk t).view.emb y (0 : Fin 2)).val = (y 0).val := by
      show win0_2.index t (0 : Fin 2) * 5760 + 1 * (y 0).val = _; omega
    have a1 : (((cfg0.win 2).blk t).view.emb y (1 : Fin 2)).val = (y 1).val := by
      show win0_2.index t (1 : Fin 2) * 512 + 1 * (y 1).val = _; omega
    generalize ((cfg0.win 2).blk t).view.emb y = z at a0 a1 ⊢
    rw [V_v1]
    refine (shapeCast_apply _ _ z (ValueIdx.ix4 (⟨(y 0).val / 640 / 3, by omega⟩ : Fin 3) (⟨(y 0).val / 640 % 3, by omega⟩ : Fin 3)
      (⟨(y 0).val % 640, by omega⟩ : Fin 640) (⟨(y 1).val, y1⟩ : Fin 512)) ?_).trans
      (ofArrays_w _ _ _ _ _ _ _ _ _ ?_ rfl rfl).symm
    · refine (Shape.rowMajor_val_four _).trans (Eq.trans ?_ (Shape.rowMajor_val_two (d := ![5760, 512]) z).symm)
      show (((y 0).val / 640 / 3 * 3 + (y 0).val / 640 % 3) * 640 + (y 0).val % 640) * 512 + (y 1).val
        = (z (0 : Fin 2)).val * 512 + (z (1 : Fin 2)).val
      omega
    · show 3 * ((y 0).val / 640 / 3) + (y 0).val / 640 % 3 = (y 0).val / 640
      omega
  h3 y := by
    obtain ⟨e0, e1⟩ := idx3 t
    show V m c main_arg3 (((cfg0.win 3).blk t).view.emb y) = _
    rw [V_main_arg3]
    refine (ofArrays_ws _ _ _ _ _ _ _ _ ?_ ?_).symm
    · show win0_3.index t (0 : Fin 2) * 5 + 1 * (y 0).val = _; omega
    · show win0_3.index t (1 : Fin 2) * 512 + 1 * (y 1).val = _; omega
  h4 y := by
    have y0 : (y 0).val < 1 := (y 0).isLt
    have y1 : (y 1).val < 512 := (y 1).isLt
    obtain ⟨e0, e1⟩ := idx4 t
    show V m c main_v2 (((cfg0.win 4).blk t).view.emb y) = _
    have a0 : (((cfg0.win 4).blk t).view.emb y (0 : Fin 2)).val = 0 := by
      show win0_4.index t (0 : Fin 2) * 1 + 1 * (y 0).val = _; omega
    have a1 : (((cfg0.win 4).blk t).view.emb y (1 : Fin 2)).val = (y 1).val := by
      show win0_4.index t (1 : Fin 2) * 512 + 1 * (y 1).val = _; omega
    generalize ((cfg0.win 4).blk t).view.emb y = z at a0 a1 ⊢
    rw [V_v2]
    refine (shapeCast_apply _ _ z (ValueIdx.ix1 (⟨(y 1).val, y1⟩ : Fin 512)) ?_).trans (ofArrays_b _ _ _ _ _ _ _ rfl).symm
    refine (Shape.rowMajor_val_one _).trans (Eq.trans ?_ (Shape.rowMajor_val_two (d := ![1, 512]) z).symm)
    show (y 1).val = (z (0 : Fin 2)).val * 512 + (z (1 : Fin 2)).val
    omega

end Cert.KernelIdeal.Fam

end
-- ==== Proof.Invariant.lean ====
/- What every grid point leaves in the output block and in the scratch it hands on, and so what the output array holds. -/
module

public import proofs.«01_k».proof.Proof.Blocks
public import proofs.«01_k».proof.Proof.Gen.KernelIdeal.Value

@[expose] public section

set_option maxRecDepth 16384

noncomputable section

namespace Cert.KernelIdeal.Fam

open Idealize.ShloMosaic Idealize.ShloMosaic.TcCoe Idealize.SL.Sem Cert.KernelIdeal.Gen Cert.Conv

variable (m : (x : Loc nD τ sig) → Buf (Elt Ideal) x) (c : Dev nD)

/-- What tile `tt` of image `b` leaves: its eight output rows; the dequantised weights and image; the vertical and diagonal
    products of the row the next tile starts from; the edge products of the image. -/
structure Left (A : Args) (b tt : ℕ) (p : Vec Ideal S1x8x128x512 .bf16 × Vec Ideal S5760x512 .bf16 × Vec Ideal S3200x1280 .bf16
    × Vec Ideal S64x512 .f32 × Vec Ideal S64x512 .f32 × Vec Ideal S48x512 .f32 × Vec Ideal S56x512 .f32) : Prop where
  out : p.1 = OUT A b tt
  w : p.2.1 = WB A
  xc : p.2.2.1 = XC A b
  v : p.2.2.2.1 = VR A b (4 * (tt + 1))
  q : p.2.2.2.2.1 = QR A b (4 * (tt + 1))
  hl : p.2.2.2.2.2.1 = HL A b
  xl : p.2.2.2.2.2.2 = XL A b

/-- The first point of all leaves what it should, -/
theorem left_A (t : Fin cfg0.N) (h0 : t.val % 144 = 0) (h1 : t.val % 12 = 0) :
    Left (args m c) (t.val / 12) (t.val % 12) (outsAt0 m c t.val t.isLt) := by
  have hs := staged m c t
  have hi := coords1 t
  rw [← hi, outsAt0_A m c t h0 h1]
  constructor <;> dsimp only
  · exact caseA_out _ _ hs (hi.trans h1)
  · exact caseA_w _ _ hs
  · exact caseA_xc _ _ hs
  · exact caseA_v _ _ hs
  · exact caseA_q _ _ hs
  · exact caseA_hl _ _ hs
  · exact caseA_xl _ _ hs

/-- a later tile of an image does, after the tile before it, -/
theorem left_B (t : Fin cfg0.N) (h0 : ¬t.val % 144 = 0) (h1 : ¬t.val % 12 = 0)
    (ih : Left (args m c) ((t.val - 1) / 12) ((t.val - 1) % 12) (outsAt0 m c (t.val - 1) (by have := t.isLt; omega))) :
    Left (args m c) (t.val / 12) (t.val % 12) (outsAt0 m c t.val t.isLt) := by
  have hs := staged m c t
  have hi := coords1 t
  rw [show (t.val - 1) / 12 = t.val / 12 by omega] at ih
  have hp : (t.val - 1) % 12 + 1 = t.val % 12 := by omega
  have hv := ih.v
  have hq := ih.q
  rw [hp, ← hi] at hv hq
  rw [← hi, outsAt0_B m c t h0 h1]
  constructor <;> dsimp only
  · exact caseB_out _ _ hs ih.w ih.xc hv hq ih.hl ih.xl
  · exact ih.w
  · exact ih.xc
  · exact caseB_v _ _ ih.w ih.xc
  · exact caseB_q _ _ ih.w ih.xc
  · exact ih.hl
  · exact ih.xl

/-- and an image's first tile does, after the image before it. -/
theorem left_C (t : Fin cfg0.N) (h0 : ¬t.val % 144 = 0) (h1 : t.val % 12 = 0)
    (ih : Left (args m c) ((t.val - 1) / 12) ((t.val - 1) % 12) (outsAt0 m c (t.val - 1) (by have := t.isLt; omega))) :
    Left (args m c) (t.val / 12) (t.val % 12) (outsAt0 m c t.val t.isLt) := by
  have hs := staged m c t
  have hi := coords1 t
  rw [← hi, outsAt0_C m c t h0 h1]
  constructor <;> dsimp only
  · exact caseC_out _ _ hs (hi.trans h1) ih.w ih.xc
  · exact ih.w
  · exact caseC_xc _ _ hs ih.xc
  · exact caseC_v _ _ hs ih.w ih.xc
  · exact caseC_q _ _ hs ih.w ih.xc
  · exact caseC_hl _ _ hs ih.w
  · exact caseC_xl _ _ hs ih.w

/-- Every point does. -/
theorem left_all : ∀ (n : ℕ) (hn : n < cfg0.N), Left (args m c) (n / 12) (n % 12) (outsAt0 m c n hn)
  | 0, hn => left_A m c ⟨0, hn⟩ rfl rfl
  | n + 1, hn => by
    have hN : n + 1 < 144 := lt_of_lt_of_eq hn N_0
    have ih := left_all n (Nat.lt_of_succ_lt hn)
    have h0 : ¬(n + 1) % 144 = 0 := by omega
    by_cases h1 : (n + 1) % 12 = 0
    · exact left_C m c ⟨n + 1, hn⟩ h0 h1 ih
    · exact left_B m c ⟨n + 1, hn⟩ h0 h1 ih

/-- THE OUTPUT ARRAY: every entry is the kernel's sum at its image, row, column and channel. -/
theorem G5_apply (i : S12x96x128x512.Idx) :
    Value.G5 m c i = kernelOut (args m c) (i 0).val (i 1).val (i 2).val (i 3).val := by
  have i0 : (i 0).val < 12 := (i 0).isLt
  have i1 : (i 1).val < 96 := (i 1).isLt
  have i2 : (i 2).val < 128 := (i 2).isLt
  have i3 : (i 3).val < 512 := (i 3).isLt
  have hp : Value.pt5Of i = 12 * (i 0).val + (i 1).val / 8 := by
    show 12 * ((i 0).val / 1 - 0) + 1 * ((i 1).val / 8 - 0) + 1 * ((i 2).val / 128 - 0) + 1 * ((i 3).val / 512 - 0) = _
    omega
  have hlt : Value.pt5Of i < cfg0.N := lt_of_lt_of_eq (by omega) N_0.symm
  unfold Value.G5
  rw [dif_pos hlt]
  have hL := (left_all m c (Value.pt5Of i) hlt).out
  rw [Value.outsAt0_sweep] at hL
  refine (congrFun hL _).trans ?_
  show kernelOut (args m c) (Value.pt5Of i / 12) (8 * (Value.pt5Of i % 12) + (i 1).val % 8) ((i 2).val % 128) ((i 3).val % 512) = _
  rw [show Value.pt5Of i / 12 = (i 0).val by omega, show 8 * (Value.pt5Of i % 12) + (i 1).val % 8 = (i 1).val by omega,
    Nat.mod_eq_of_lt i2, Nat.mod_eq_of_lt i3]

end Cert.KernelIdeal.Fam

end
-- ==== Proof.HostLines.lean ====
/- The reference's host lines read as functions: the upsampled, padded image, one tap's product, and their sum. -/
module

public import proofs.«01_k».proof.Proof.Gen.ReferenceIdeal.Frame
public import Idealize.ShloMosaic.Lib.Pointwise

@[expose] public section

set_option maxRecDepth 16384

noncomputable section

namespace Cert.ReferenceIdeal.Ref

open Idealize.ShloMosaic Idealize.ShloMosaic.TcCoe Idealize.SL.Sem Cert.ReferenceIdeal.Gen

/-- The image with every row and column doubled and a border of one zero pixel. -/
def padded (xb : Vec Ideal S12x48x64x640 .bf16) : Vec Ideal S12x98x130x640 .bf16 :=
  pad S12x98x130x640 ![0, 1, 1, 0] ![0, 1, 1, 0] ![0, 0, 0, 0]
    (shapeCast S12x96x128x640 (broadcastInDim S12x96x64x2x640 ![0, 1, 2, 4] bcast_S12x96x64x640_S12x96x64x2x640_0_1_2_4
      (shapeCast S12x96x64x640 (broadcastInDim S12x48x2x64x640 ![0, 1, 3, 4] bcast_S12x48x64x640_S12x48x2x64x640_0_1_3_4 xb)
        shapeCasts_S12x48x2x64x640_S12x96x64x640)) shapeCasts_S12x96x64x2x640_S12x96x128x640)
    (sitofp (F := Ideal) .bf16 (constantI S_ 32 0#32)) pads_S12x96x128x640_S12x98x130x640_000_110_110_000 h_S_

/-- One tap: the padded image's window at the tap's offset times the tap's weights. -/
def tap (u : Vec Ideal S12x98x130x640 .bf16) (w : Vec Ideal S3x3x640x512 .bf16) (o : Fin 4 → ℕ) (o' : Fin 4 → ℕ)
    (h : S12x98x130x640.Slices o S12x96x128x640) (h' : S3x3x640x512.Slices o' S1x1x640x512) : Vec Ideal S12x96x128x512 .f32 :=
  Host.dotGeneral (F := Ideal) (φ₁ := .bf16) (φ₂ := .bf16) dot_S12x96x128x640_S640x512_S12x96x128x512_3_0_012_1_n_n none
    (extractStridedSlice S12x96x128x640 o u h)
    (shapeCast S640x512 (extractStridedSlice S1x1x640x512 o' w h') shapeCasts_S1x1x640x512_S640x512)

/-- The nine taps added in order from zero, then the bias. -/
def total (u : Vec Ideal S12x98x130x640 .bf16) (w : Vec Ideal S3x3x640x512 .bf16) (b : Vec Ideal S512 .f32) :
    Vec Ideal S12x96x128x512 .bf16 :=
  have a0 : FVec Ideal S12x96x128x512 .f32 := addf (broadcastInDim S12x96x128x512 ![] bcast_S_S12x96x128x512 (constant S_ .f32 0x00000000#32))
    (tap u w ![0, 0, 0, 0] ![0, 0, 0, 0] slices_S12x98x130x640_S12x96x128x640_0_0_0_0 slices_S3x3x640x512_S1x1x640x512_0_0_0_0)
  have a1 := addf a0 (tap u w ![0, 0, 1, 0] ![0, 1, 0, 0] slices_S12x98x130x640_S12x96x128x640_0_0_1_0 slices_S3x3x640x512_S1x1x640x512_0_1_0_0)
  have a2 := addf a1 (tap u w ![0, 0, 2, 0] ![0, 2, 0, 0] slices_S12x98x130x640_S12x96x128x640_0_0_2_0 slices_S3x3x640x512_S1x1x640x512_0_2_0_0)
  have a3 := addf a2 (tap u w ![0, 1, 0, 0] ![1, 0, 0, 0] slices_S12x98x130x640_S12x96x128x640_0_1_0_0 slices_S3x3x640x512_S1x1x640x512_1_0_0_0)
  have a4 := addf a3 (tap u w ![0, 1, 1, 0] ![1, 1, 0, 0] slices_S12x98x130x640_S12x96x128x640_0_1_1_0 slices_S3x3x640x512_S1x1x640x512_1_1_0_0)
  have a5 := addf a4 (tap u w ![0, 1, 2, 0] ![1, 2, 0, 0] slices_S12x98x130x640_S12x96x128x640_0_1_2_0 slices_S3x3x640x512_S1x1x640x512_1_2_0_0)
  have a6 := addf a5 (tap u w ![0, 2, 0, 0] ![2, 0, 0, 0] slices_S12x98x130x640_S12x96x128x640_0_2_0_0 slices_S3x3x640x512_S1x1x640x512_2_0_0_0)
  have a7 := addf a6 (tap u w ![0, 2, 1, 0] ![2, 1, 0, 0] slices_S12x98x130x640_S12x96x128x640_0_2_1_0 slices_S3x3x640x512_S1x1x640x512_2_1_0_0)
  have a8 := addf a7 (tap u w ![0, 2, 2, 0] ![2, 2, 0, 0] slices_S12x98x130x640_S12x96x128x640_0_2_2_0 slices_S3x3x640x512_S1x1x640x512_2_2_0_0)
  truncf .bf16 (addf a8 (broadcastInDim S12x96x128x512 ![0, 1, 2, 3] bcast_S1x1x1x512_S12x96x128x512_0_1_2_3
    (broadcastInDim S1x1x1x512 ![3] bcast_S512_S1x1x1x512_3 b))) bitsLt_bf16_f32

variable (V : Valuation τ sig (Elt Ideal))

/-- The lines up to the padding leave the padded image, -/
theorem head_v5 : StableHlo.after hostOps1_1 (StableHlo.after hostOps1 V) (Proc.devRef .tc main_v5) = padded (V (Proc.devRef .tc main_v0_0)) := by
  unfold hostOps1 hostOps1_1
  after_results
  rfl

/-- and the weights and the bias as they were. -/
theorem head_v0_1 : StableHlo.after hostOps1_1 (StableHlo.after hostOps1 V) (Proc.devRef .tc main_v0_1) = V (Proc.devRef .tc main_v0_1) := by
  unfold hostOps1 hostOps1_1
  after_results

theorem head_arg4 : StableHlo.after hostOps1_1 (StableHlo.after hostOps1 V) (Proc.devRef .tc main_arg4) = V (Proc.devRef .tc main_arg4) := by
  unfold hostOps1 hostOps1_1
  after_results

/-- The lines after it leave the sum. -/
theorem tail_v55 : StableHlo.after hostOps1_2 V (Proc.devRef .tc main_v55)
    = total (V (Proc.devRef .tc main_v5)) (V (Proc.devRef .tc main_v0_1)) (V (Proc.devRef .tc main_arg4)) := by
  unfold hostOps1_2
  after_results
  rfl

/-- All of them together. -/
theorem lines_v55 : StableHlo.after (List.flatten [hostOps1, hostOps1_1, hostOps1_2]) V (Proc.devRef .tc main_v55)
    = total (padded (V (Proc.devRef .tc main_v0_0))) (V (Proc.devRef .tc main_v0_1)) (V (Proc.devRef .tc main_arg4)) := by
  have e : StableHlo.after (List.flatten [hostOps1, hostOps1_1, hostOps1_2]) V
      = StableHlo.after hostOps1_2 (StableHlo.after hostOps1_1 (StableHlo.after hostOps1 V)) := rfl
  rw [e, tail_v55, head_v5, head_v0_1, head_arg4]

end Cert.ReferenceIdeal.Ref

end
-- ==== Proof.RefValue.lean ====
/- The reference's result: the upsampled convolution of the dequantised arguments, entry by entry. -/
module

public import proofs.«01_k».proof.Proof.HostLines
public import proofs.«01_k».proof.Proof.Arrays
public import Idealize.ShloMosaic.Lib.KernelVsHost

@[expose] public section

set_option maxRecDepth 16384

noncomputable section

namespace Cert.ReferenceIdeal.Ref

open Idealize.ShloMosaic Idealize.ShloMosaic.TcCoe Idealize.SL.Sem Cert.ReferenceIdeal.Gen Cert.Conv

/-- The padded image at row `y1`, column `y2`: zero on the border, else the pixel half-way along. -/
theorem padded_in (xb : Vec Ideal S12x48x64x640 .bf16) (y : S12x98x130x640.Idx) (z : S12x48x64x640.Idx) (h0 : (z 0).val = (y 0).val)
    (h1 : 1 ≤ (y 1).val) (h1' : (z 1).val = ((y 1).val - 1) / 2) (h2 : 1 ≤ (y 2).val) (h2' : (z 2).val = ((y 2).val - 1) / 2)
    (h3 : (z 3).val = (y 3).val) : padded xb y = xb z := by
  have z1 : (z 1).val < 48 := (z 1).isLt
  have z2 : (z 2).val < 64 := (z 2).isLt
  have y0 : (y 0).val < 12 := (y 0).isLt
  have y3 : (y 3).val < 640 := (y 3).isLt
  unfold padded
  refine (pad_apply_of_inside _ _ _ _ _ _ _ y (ValueIdx.ix4 (⟨(y 0).val, y0⟩ : Fin 12) (⟨(y 1).val - 1, by omega⟩ : Fin 96)
    (⟨(y 2).val - 1, by omega⟩ : Fin 128) (⟨(y 3).val, y3⟩ : Fin 640)) fun a => ?_).trans ?_
  · match a with
    | ⟨0, _⟩ => show (y 0).val = 0 + (y 0).val * (0 + 1); omega
    | ⟨1, _⟩ => show (y 1).val = 1 + ((y 1).val - 1) * (0 + 1); omega
    | ⟨2, _⟩ => show (y 2).val = 1 + ((y 2).val - 1) * (0 + 1); omega
    | ⟨3, _⟩ => show (y 3).val = 0 + (y 3).val * (0 + 1); omega
  refine (shapeCast_apply _ _ _ (ValueIdx.ix5 (⟨(y 0).val, y0⟩ : Fin 12) (⟨(y 1).val - 1, by omega⟩ : Fin 96)
    (⟨((y 2).val - 1) / 2, by omega⟩ : Fin 64) (⟨((y 2).val - 1) % 2, by omega⟩ : Fin 2) (⟨(y 3).val, y3⟩ : Fin 640)) ?_).trans ?_
  · refine (Shape.rowMajor_val_five _).trans (Eq.trans ?_ (Shape.rowMajor_val_four _).symm)
    show ((((y 0).val * 96 + ((y 1).val - 1)) * 64 + ((y 2).val - 1) / 2) * 2 + ((y 2).val - 1) % 2) * 640 + (y 3).val
      = (((y 0).val * 96 + ((y 1).val - 1)) * 128 + ((y 2).val - 1)) * 640 + (y 3).val
    omega
  refine (broadcastInDim_apply _ _ _ _ (ValueIdx.ix4 (⟨(y 0).val, y0⟩ : Fin 12) (⟨(y 1).val - 1, by omega⟩ : Fin 96)
    (⟨((y 2).val - 1) / 2, by omega⟩ : Fin 64) (⟨(y 3).val, y3⟩ : Fin 640)) fun a => ?_).trans ?_
  · match a with | ⟨0, _⟩ => rfl | ⟨1, _⟩ => rfl | ⟨2, _⟩ => rfl | ⟨3, _⟩ => rfl
  refine (shapeCast_apply _ _ _ (ValueIdx.ix5 (⟨(y 0).val, y0⟩ : Fin 12) (⟨((y 1).val - 1) / 2, by omega⟩ : Fin 48)
    (⟨((y 1).val - 1) % 2, by omega⟩ : Fin 2) (⟨((y 2).val - 1) / 2, by omega⟩ : Fin 64) (⟨(y 3).val, y3⟩ : Fin 640)) ?_).trans ?_
  · refine (Shape.rowMajor_val_five _).trans (Eq.trans ?_ (Shape.rowMajor_val_four _).symm)
    show ((((y 0).val * 48 + ((y 1).val - 1) / 2) * 2 + ((y 1).val - 1) % 2) * 64 + ((y 2).val - 1) / 2) * 640 + (y 3).val
      = (((y 0).val * 96 + ((y 1).val - 1)) * 64 + ((y 2).val - 1) / 2) * 640 + (y 3).val
    omega
  refine broadcastInDim_apply _ _ _ _ z fun a => ?_
  match a with | ⟨0, _⟩ => exact h0 | ⟨1, _⟩ => exact h1' | ⟨2, _⟩ => exact h2' | ⟨3, _⟩ => exact h3

theorem padded_off (xb : Vec Ideal S12x48x64x640 .bf16) (y : S12x98x130x640.Idx)
    (h : (y 1).val = 0 ∨ 97 ≤ (y 1).val ∨ (y 2).val = 0 ∨ 129 ≤ (y 2).val) : padded xb y = 0 := by
  have hz : sitofp (F := Ideal) .bf16 (constantI S_ 32 0#32) (Shape.Idx.first h_S_) = (0 : EReal) := by
    show (((0#32 : BitVec 32).toInt : ℝ) : EReal) = 0
    simp
  unfold padded
  refine Eq.trans ?_ hz
  by_cases h1 : (y 1).val = 0 ∨ 97 ≤ (y 1).val
  · refine pad_apply_of_not_inside _ _ _ _ _ _ _ y (1 : Fin 4) fun hin => ?_
    have e : 1 ≤ (y 1).val ∧ ((y 1).val - 1) % (0 + 1) = 0 ∧ ((y 1).val - 1) / (0 + 1) < 96 := hin
    omega
  · refine pad_apply_of_not_inside _ _ _ _ _ _ _ y (2 : Fin 4) fun hin => ?_
    have e : 1 ≤ (y 2).val ∧ ((y 2).val - 1) % (0 + 1) = 0 ∧ ((y 2).val - 1) / (0 + 1) < 128 := hin
    omega

/-- One tap, entry by entry: the sum over the channels. -/
theorem tap_apply (u : Vec Ideal S12x98x130x640 .bf16) (w : Vec Ideal S3x3x640x512 .bf16) (o o' : Fin 4 → ℕ)
    (h : S12x98x130x640.Slices o S12x96x128x640) (h' : S3x3x640x512.Slices o' S1x1x640x512) (y : S12x96x128x512.Idx)
    (f g : Fin 640 → EReal)
    (hf : ∀ (k : Fin 640) (z : S12x98x130x640.Idx), (z 0).val = o 0 + (y 0).val → (z 1).val = o 1 + (y 1).val →
      (z 2).val = o 2 + (y 2).val → (z 3).val = o 3 + k.val → u z = f k)
    (hg : ∀ (k : Fin 640) (z : S3x3x640x512.Idx), (z 0).val = o' 0 → (z 1).val = o' 1 →
      (z 2).val = o' 2 + k.val → (z 3).val = o' 3 + (y 3).val → w z = g k) :
    tap u w o o' h h' y = ∑ k : Fin 640, f k * g k := by
  unfold tap
  pointwise
  refine Finset.sum_congr rfl fun k _ => congrArg₂ (· * ·) (hf k _ rfl rfl rfl rfl) (hg k _ ?_ ?_ rfl rfl)
  · rfl
  · rfl

variable {A : Args}

/-- One tap over the dequantised image and weights is the tap of the specification. -/
theorem tap_eq (xb : Vec Ideal S12x48x64x640 .bf16) (wb : Vec Ideal S3x3x640x512 .bf16)
    (hx : ∀ z, xb z = A.x (z 0).val (z 1).val (z 2).val (z 3).val * A.s (z 0).val (z 1).val (z 2).val)
    (hw : ∀ z, wb z = A.w (3 * (z 0).val + (z 1).val) (z 2).val (z 3).val * A.ws ((z 2).val / 128) (z 3).val)
    (p q : ℕ) (h : S12x98x130x640.Slices ![0, p, q, 0] S12x96x128x640) (h' : S3x3x640x512.Slices ![p, q, 0, 0] S1x1x640x512)
    (y : S12x96x128x512.Idx) :
    tap (padded xb) wb ![0, p, q, 0] ![p, q, 0, 0] h h' y = tapAt A (y 0).val (y 1).val (y 2).val (y 3).val p q := by
  refine tap_apply _ _ _ _ _ _ _ (fun k => pix A (y 0).val (((y 1).val + p + 1) / 2) (((y 2).val + q + 1) / 2) k.val)
    (fun k => wt A (3 * p + q) k.val (y 3).val) (fun k z e0 e1 e2 e3 => ?_) (fun k z e0 e1 e2 e3 => ?_)
  · replace e0 : (z 0).val = 0 + (y 0).val := e0
    replace e1 : (z 1).val = p + (y 1).val := e1
    replace e2 : (z 2).val = q + (y 2).val := e2
    replace e3 : (z 3).val = 0 + k.val := e3
    have z0 : (z 0).val < 12 := (z 0).isLt
    have z3 : (z 3).val < 640 := (z 3).isLt
    by_cases hin : 1 ≤ (z 1).val ∧ (z 1).val ≤ 96 ∧ 1 ≤ (z 2).val ∧ (z 2).val ≤ 128
    · refine (padded_in xb z (ValueIdx.ix4 (⟨(z 0).val, z0⟩ : Fin 12) (⟨((z 1).val - 1) / 2, by omega⟩ : Fin 48)
        (⟨((z 2).val - 1) / 2, by omega⟩ : Fin 64) (⟨(z 3).val, z3⟩ : Fin 640)) rfl hin.1 rfl hin.2.2.1 rfl rfl).trans ((hx _).trans ?_)
      unfold pix
      rw [if_pos (by omega)]
      show A.x (z 0).val (((z 1).val - 1) / 2) (((z 2).val - 1) / 2) (z 3).val * A.s (z 0).val (((z 1).val - 1) / 2) (((z 2).val - 1) / 2) = _
      rw [show (z 0).val = (y 0).val by omega, show (z 3).val = k.val by omega,
        show ((z 1).val - 1) / 2 = ((y 1).val + p + 1) / 2 - 1 by omega, show ((z 2).val - 1) / 2 = ((y 2).val + q + 1) / 2 - 1 by omega]
    · refine (padded_off xb z (by omega)).trans ?_
      unfold pix
      rw [if_neg (by omega)]
  · replace e0 : (z 0).val = p := e0
    replace e1 : (z 1).val = q := e1
    replace e2 : (z 2).val = 0 + k.val := e2
    replace e3 : (z 3).val = 0 + (y 3).val := e3
    rw [hw, e0, e1, e2, e3, Nat.zero_add, Nat.zero_add]
    rfl

/-- The whole sum is the convolution of the specification. -/
theorem total_eq (xb : Vec Ideal S12x48x64x640 .bf16) (wb : Vec Ideal S3x3x640x512 .bf16) (b : Vec Ideal S512 .f32)
    (hx : ∀ z, xb z = A.x (z 0).val (z 1).val (z 2).val (z 3).val * A.s (z 0).val (z 1).val (z 2).val)
    (hw : ∀ z, wb z = A.w (3 * (z 0).val + (z 1).val) (z 2).val (z 3).val * A.ws ((z 2).val / 128) (z 3).val)
    (hb : ∀ z, b z = A.b (z 0).val) (y : S12x96x128x512.Idx) :
    total (padded xb) wb b y = convOut A (y 0).val (y 1).val (y 2).val (y 3).val := by
  unfold total
  dsimp only
  pointwise
  simp only [tap_eq xb wb hx hw, hb]
  unfold convOut
  rfl

end Cert.ReferenceIdeal.Ref

end
-- ==== Proof.RefRun.lean ====
/- The reference's run: its result array holds the upsampled convolution of the dequantised arguments. -/
module

public import proofs.«01_k».proof.Proof.RefValue
public import Idealize.ShloMosaic.Lib.Pipeline.ValueKit

@[expose] public section

set_option maxRecDepth 16384

noncomputable section

namespace Cert.ReferenceIdeal.Ref

open Idealize.ShloMosaic Idealize.ShloMosaic.TcCoe Idealize.SL.Sem Cert.ReferenceIdeal.Gen Cert.Conv

variable (m : (x : Loc nD τ sig) → Buf (Elt Ideal) x) (ρ : Dev nD → PrngReg) (c : Dev nD)

/-- The entries of the arguments device `c` holds. -/
def args : Args :=
  ofArrays (m ((c : Thread nD τ).loc main_arg0)) (m ((c : Thread nD τ).loc main_arg1)) (m ((c : Thread nD τ).loc main_arg2))
    (m ((c : Thread nD τ).loc main_arg3)) (m ((c : Thread nD τ).loc main_arg4))

/-- The region's one point takes each window's one block, -/
theorem idx : win0_0.index t0_0 = ![0, 0, 0, 0] ∧ win0_1.index t0_0 = ![0, 0, 0] ∧ win0_2.index t0_0 = ![0, 0, 0, 0]
    ∧ win0_3.index t0_0 = ![0, 0] := by decide +kernel

/-- which is the argument. -/
theorem iblk0 : iblk m c 0 t0_0 = m ((c : Thread nD τ).loc main_arg0) := by blk_ext! [iblk, V, idx]
theorem iblk1 : iblk m c 1 t0_0 = m ((c : Thread nD τ).loc main_arg1) := by blk_ext! [iblk, V, idx]
theorem iblk2 : iblk m c 2 t0_0 = m ((c : Thread nD τ).loc main_arg2) := by blk_ext! [iblk, V, idx]
theorem iblk3 : iblk m c 3 t0_0 = m ((c : Thread nD τ).loc main_arg3) := by blk_ext! [iblk, V, idx]

/-- The dequantised image, entry by entry. -/
theorem pay1_apply (x0 : Vec Ideal S12x48x64x640 .fp8e4m3) (x1 : Vec Ideal S12x48x64 .f32) (z : S12x48x64x640.Idx) :
    k0_pay1 (F := Ideal) x0 x1 z = x0 z * x1 (ValueIdx.ix3 (z 0 : Fin 12) (z 1 : Fin 48) (z 2 : Fin 64)) := by
  unfold k0_pay1
  pointwise
  rfl

/-- The dequantised weights, entry by entry. -/
theorem pay2_apply (x2 : Vec Ideal S3x3x640x512 .fp8e4m3) (x3 : Vec Ideal S5x512 .f32) (z : S3x3x640x512.Idx) :
    k0_pay2 (F := Ideal) x2 x3 z
      = x2 z * x3 (ValueIdx.ix2 (⟨(z 2).val / 128, by have : (z 2).val < 640 := (z 2).isLt; omega⟩ : Fin 5) (z 3 : Fin 512)) := by
  unfold k0_pay2
  pointwise
  rfl

/-- The region leaves the dequantised image, -/
theorem image_eq (z : S12x48x64x640.Idx) : (dats m 0 c).arrAt 4 cfg0.N z
    = (args m c).x (z 0).val (z 1).val (z 2).val (z 3).val * (args m c).s (z 0).val (z 1).val (z 2).val := by
  refine ((dats m 0 c).arrAt_emb_eq_after_last 4 t0_0 (by decide +kernel) z).trans ?_
  blk_simp
  rw [after0_4]
  frame_out
  rw [iblk0, iblk1]
  refine (pay1_apply _ _ z).trans (congrArg₂ (· * ·) ?_ ?_)
  · exact (ofArrays_x _ _ _ _ _ _ _ _ _ _ rfl rfl rfl rfl).symm
  · exact (ofArrays_s _ _ _ _ _ _ _ _ _ rfl rfl rfl).symm

/-- and the dequantised weights. -/
theorem weights_eq (z : S3x3x640x512.Idx) : (dats m 0 c).arrAt 5 cfg0.N z
    = (args m c).w (3 * (z 0).val + (z 1).val) (z 2).val (z 3).val * (args m c).ws ((z 2).val / 128) (z 3).val := by
  refine ((dats m 0 c).arrAt_emb_eq_after_last 5 t0_0 (by decide +kernel) z).trans ?_
  blk_simp
  rw [after0_5]
  frame_out
  rw [iblk2, iblk3]
  refine (pay2_apply _ _ z).trans (congrArg₂ (· * ·) ?_ ?_)
  · exact (ofArrays_w _ _ _ _ _ _ _ _ _ rfl rfl rfl).symm
  · exact (ofArrays_ws _ _ _ _ _ _ _ _ rfl rfl).symm

/-- THE RESULT ARRAY: every entry is the convolution at its image, row, column and channel. -/
theorem result_apply (y : S12x96x128x512.Idx) :
    Pipeline.afterTail₀ cfgs (dats m) 0 (V0 m) [hostOps1, hostOps1_1, hostOps1_2] c main_v55 y
      = convOut (args m c) (y 0).val (y 1).val (y 2).val (y 3).val := by
  unfold Pipeline.afterTail₀
  rw [lines_v55, Pipeline.withArrays_of_ne _ c (V0 m c) _ main_arg4 (by exact (by decide : ∀ w, Pipeline.arrRef spec0 w ≠ main_arg4))]
  have e4 := Pipeline.withArrays_arr (τ := τ) spec0 (by decide) c (V0 m c) (fun w => (dats m 0 c).arrAt w cfg0.N) 4
  have e5 := Pipeline.withArrays_arr (τ := τ) spec0 (by decide) c (V0 m c) (fun w => (dats m 0 c).arrAt w cfg0.N) 5
  refine (congrFun (congrArg₂ (fun a b => total (padded a) b _) e4 e5) y).trans ?_
  exact total_eq _ _ _ (image_eq m c) (weights_eq m c) (fun z => (ofArrays_b _ _ _ _ _ _ _ rfl).symm) y

/-- The run, read: the result array at the convolution, the arguments unchanged. -/
theorem run : θ_run defs (onTc (τ := τ) (main (F := Ideal))) ⟨m, fun _ => 0, ρ⟩ fun r => ∀ c : Dev nD,
      (∀ y : S12x96x128x512.Idx, r.2.mem ((c : Thread nD τ).loc main_v55) y
        = convOut (args m c) (y 0).val (y 1).val (y 2).val (y 3).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨fun y =>
      (congrFun ((h.1 c).2 main_v55 (Pipeline.mem_restRefs_of main_v55 (by decide) (by decide))) y).trans (result_apply m c y), h.2 c⟩)
    (θ_run_and (run_main m ρ) (unchanged m ρ))

end Cert.ReferenceIdeal.Ref

end
-- ==== Proof.lean ====
/- THE CLAIM: the three frames, the kernel's idealization, and the kernel's result equal to the reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Invariant
public import proofs.«01_k».proof.Proof.RefRun
public import Idealize.ShloMosaic.Adequacy
public import Idealize.ShloMosaic.Init
public import Idealize.ShloMosaic.Lib.Bf16Pair

@[expose] public section

noncomputable section

namespace Cert.Proof

open Idealize.ShloMosaic Idealize.ShloMosaic.TcCoe Idealize.SL.Sem Cert.Conv

/-- From equal arguments the two programs' result arrays are equal: the kernel's entry is its own sum of the nine products
    (`G5_apply`), the reference's is the convolution's (`RefRun`'s `run`), and the two sums are the same (`kernelOut_eq`). -/
theorem algebraic : Cert.algebraic_KernelIdeal_ReferenceIdeal := by
  intro m g m' g' _ hargs
  refine ⟨fun c => Cert.KernelIdeal.Value.G5 m c, Cert.KernelIdeal.Value.run m g, ?_⟩
  refine (θ_run Cert.ReferenceIdeal.defs _ _).mono (fun r h c => ⟨funext fun y => ?_, (h c).2⟩) (Cert.ReferenceIdeal.Ref.run m' g')
  obtain ⟨e0, e1, e2, e3, e4⟩ := hargs c
  have ha : Cert.ReferenceIdeal.Ref.args m' c = Cert.KernelIdeal.Fam.args m c := by
    unfold Cert.ReferenceIdeal.Ref.args Cert.KernelIdeal.Fam.args
    rw [e0, e1, e2, e3, e4]
  refine ((h c).1 y).trans ?_
  rw [ha]
  exact ((Cert.KernelIdeal.Fam.G5_apply m c y).trans (kernelOut_eq _ _ _ _ _)).symm

/-- The five claims together. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  ⟨IdealRules.bf16_pair.packStatement Cert.KernelIdeal.S64x512,
    IdealRules.bf16_pair.statement Cert.KernelIdeal.S128x512 Cert.KernelIdeal.S64x512⟩,
  algebraic⟩

end Cert.Proof

end
